-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_v29 : IVec S_ 1) (main_v34 : IVec S_ 1) : IVec S_ 1 :=
  let main_v35 : IVec S_ 1 := andi main_v29 main_v34
  main_v35

def fn_part1 {F : FTy → Type} [FloatOps F] (main_arg4 : FVec F S1024x1024 .bf16) (main_arg5 : FVec F S1024x512 .bf16) (main_arg6 : FVec F S1024x32 .bf16) (main_v11 : IVec S_ 1) (main_v16 : IVec S_ 1) : IVec S_ 1 :=
  let main_v17 : IVec S_ 1 := andi main_v11 main_v16
  let main_v18 : FVec F S1024x1024 .f32 := (extf .f32 · bitsLt_bf16_f32) main_arg4
  let main_v19 : FVec F S1024x1024 .f32 := Host.absf main_v18
  let main_cst_5 : FVec F S_ .f32 := constant S_ .f32 0x7F800000#32
  let main_v20 : FVec F S1024x1024 .f32 := broadcastInDim S1024x1024 ![] bcast_S_S1024x1024 main_cst_5
  let main_v21 : IVec S1024x1024 1 := cmpf .olt main_v19 main_v20
  let main_c_6 : IVec S_ 1 := constantI S_ 1 1#1
  let main_v22 : IVec S_ 1 := (fun x v => Host.reduce IntOp.andi x v reducesTo_S1024x1024_S_d0_1 h_S_) main_v21 main_c_6
  let main_v23 : IVec S_ 1 := andi main_v17 main_v22
  let main_v24 : FVec F S1024x512 .f32 := (extf .f32 · bitsLt_bf16_f32) main_arg5
  let main_v25 : FVec F S1024x512 .f32 := Host.absf main_v24
  let main_cst_7 : FVec F S_ .f32 := constant S_ .f32 0x7F800000#32
  let main_v26 : FVec F S1024x512 .f32 := broadcastInDim S1024x512 ![] bcast_S_S1024x512 main_cst_7
  let main_v27 : IVec S1024x512 1 := cmpf .olt main_v25 main_v26
  let main_c_8 : IVec S_ 1 := constantI S_ 1 1#1
  let main_v28 : IVec S_ 1 := (fun x v => Host.reduce IntOp.andi x v reducesTo_S1024x512_S_d0_1 h_S_) main_v27 main_c_8
  let main_v29 : IVec S_ 1 := andi main_v23 main_v28
  let main_v30 : FVec F S1024x32 .f32 := (extf .f32 · bitsLt_bf16_f32) main_arg6
  let main_v31 : FVec F S1024x32 .f32 := Host.absf main_v30
  let main_cst_9 : FVec F S_ .f32 := constant S_ .f32 0x7F800000#32
  let main_v32 : FVec F S1024x32 .f32 := broadcastInDim S1024x32 ![] bcast_S_S1024x32 main_cst_9
  let main_v33 : IVec S1024x32 1 := cmpf .olt main_v31 main_v32
  let main_c_10 : IVec S_ 1 := constantI S_ 1 1#1
  let main_v34 : IVec S_ 1 := (fun x v => Host.reduce IntOp.andi x v reducesTo_S1024x32_S_d0_1 h_S_) main_v33 main_c_10
  fn_part2 (F := F) main_v29 main_v34

def fn {F : FTy → Type} [FloatOps F] (main_arg0 : FVec F S2x256x1024 .bf16) (main_arg1 : FVec F S1024x64 .bf16) (main_arg2 : FVec F S64x1024 .bf16) (main_arg3 : FVec F S64x1024 .bf16) (main_arg4 : FVec F S1024x1024 .bf16) (main_arg5 : FVec F S1024x512 .bf16) (main_arg6 : FVec F S1024x32 .bf16) (main_arg7 : FVec F S1024x1024 .bf16) : IVec S_ 1 :=
  let main_v0 : FVec F S2x256x1024 .f32 := (extf .f32 · bitsLt_bf16_f32) main_arg0
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_c : IVec S_ 1 := constantI S_ 1 1#1
  let main_v4 : IVec S_ 1 := (fun x v => Host.reduce IntOp.andi x v reducesTo_S2x256x1024_S_d0_1_2 h_S_) main_v3 main_c
  let main_c_0 : IVec S_ 1 := constantI S_ 1 1#1
  let main_v5 : IVec S_ 1 := andi main_c_0 main_v4
  let main_v6 : FVec F S1024x64 .f32 := (extf .f32 · bitsLt_bf16_f32) main_arg1
  let main_v7 : FVec F S1024x64 .f32 := Host.absf main_v6
  let main_cst_1 : FVec F S_ .f32 := constant S_ .f32 0x7F800000#32
  let main_v8 : FVec F S1024x64 .f32 := broadcastInDim S1024x64 ![] bcast_S_S1024x64 main_cst_1
  let main_v9 : IVec S1024x64 1 := cmpf .olt main_v7 main_v8
  let main_c_2 : IVec S_ 1 := constantI S_ 1 1#1
  let main_v10 : IVec S_ 1 := (fun x v => Host.reduce IntOp.andi x v reducesTo_S1024x64_S_d0_1 h_S_) main_v9 main_c_2
  let main_v11 : IVec S_ 1 := andi main_v5 main_v10
  let main_v12 : FVec F S64x1024 .f32 := (extf .f32 · bitsLt_bf16_f32) main_arg2
  let main_v13 : FVec F S64x1024 .f32 := Host.absf main_v12
  let main_cst_3 : FVec F S_ .f32 := constant S_ .f32 0x7F800000#32
  let main_v14 : FVec F S64x1024 .f32 := broadcastInDim S64x1024 ![] bcast_S_S64x1024 main_cst_3
  let main_v15 : IVec S64x1024 1 := cmpf .olt main_v13 main_v14
  let main_c_4 : IVec S_ 1 := constantI S_ 1 1#1
  let main_v16 : IVec S_ 1 := (fun x v => Host.reduce IntOp.andi x v reducesTo_S64x1024_S_d0_1 h_S_) main_v15 main_c_4
  fn_part1 (F := F) main_arg4 main_arg5 main_arg6 main_v11 main_v16
-- ==== Pre_scores_finite_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bitsLt_bf16_f32 : FTy.bits .bf16 < FTy.bits .f32
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_v29 : IVec S_ 1) (main_v34 : IVec S_ 1) : IVec S_ 1 :=
  let main_v35 : IVec S_ 1 := andi main_v29 main_v34
  main_v35

def fn_part1 {F : FTy → Type} [FloatOps F] (main_arg4 : FVec F S1024x1024 .bf16) (main_arg5 : FVec F S1024x512 .bf16) (main_arg6 : FVec F S1024x32 .bf16) (main_v11 : IVec S_ 1) (main_v16 : IVec S_ 1) : IVec S_ 1 :=
  let main_v17 : IVec S_ 1 := andi main_v11 main_v16
  let main_v18 : FVec F S1024x1024 .f32 := (extf .f32 · bitsLt_bf16_f32) main_arg4
  let main_v19 : FVec F S1024x1024 .f32 := Host.absf main_v18
  let main_cst_5 : FVec F S_ .f32 := constant S_ .f32 0x7F800000#32
  let main_v20 : FVec F S1024x1024 .f32 := broadcastInDim S1024x1024 ![] bcast_S_S1024x1024 main_cst_5
  let main_v21 : IVec S1024x1024 1 := cmpf .olt main_v19 main_v20
  let main_c_6 : IVec S_ 1 := constantI S_ 1 1#1
  let main_v22 : IVec S_ 1 := (fun x v => Host.reduce IntOp.andi x v reducesTo_S1024x1024_S_d0_1 h_S_) main_v21 main_c_6
  let main_v23 : IVec S_ 1 := andi main_v17 main_v22
  let main_v24 : FVec F S1024x512 .f32 := (extf .f32 · bitsLt_bf16_f32) main_arg5
  let main_v25 : FVec F S1024x512 .f32 := Host.absf main_v24
  let main_cst_7 : FVec F S_ .f32 := constant S_ .f32 0x7F800000#32
  let main_v26 : FVec F S1024x512 .f32 := broadcastInDim S1024x512 ![] bcast_S_S1024x512 main_cst_7
  let main_v27 : IVec S1024x512 1 := cmpf .olt main_v25 main_v26
  let main_c_8 : IVec S_ 1 := constantI S_ 1 1#1
  let main_v28 : IVec S_ 1 := (fun x v => Host.reduce IntOp.andi x v reducesTo_S1024x512_S_d0_1 h_S_) main_v27 main_c_8
  let main_v29 : IVec S_ 1 := andi main_v23 main_v28
  let main_v30 : FVec F S1024x32 .f32 := (extf .f32 · bitsLt_bf16_f32) main_arg6
  let main_v31 : FVec F S1024x32 .f32 := Host.absf main_v30
  let main_cst_9 : FVec F S_ .f32 := constant S_ .f32 0x7F800000#32
  let main_v32 : FVec F S1024x32 .f32 := broadcastInDim S1024x32 ![] bcast_S_S1024x32 main_cst_9
  let main_v33 : IVec S1024x32 1 := cmpf .olt main_v31 main_v32
  let main_c_10 : IVec S_ 1 := constantI S_ 1 1#1
  let main_v34 : IVec S_ 1 := (fun x v => Host.reduce IntOp.andi x v reducesTo_S1024x32_S_d0_1 h_S_) main_v33 main_c_10
  fn_part2 (F := F) main_v29 main_v34

def fn {F : FTy → Type} [FloatOps F] (main_arg0 : FVec F S2x256x1024 .bf16) (main_arg1 : FVec F S1024x128 .bf16) (main_arg2 : FVec F S128x1024 .bf16) (main_arg3 : FVec F S128x1024 .bf16) (main_arg4 : FVec F S1024x1024 .bf16) (main_arg5 : FVec F S1024x512 .bf16) (main_arg6 : FVec F S1024x32 .bf16) (main_arg7 : FVec F S1024x1024 .bf16) : IVec S_ 1 :=
  let main_v0 : FVec F S2x256x1024 .f32 := (extf .f32 · bitsLt_bf16_f32) main_arg0
  let main_v1 : FVec F S2x256x1024 .f32 := Host.absf main_v0
  let main_cst : FVec F S_ .f32 := constant S_ .f32 0x7F800000#32
  let main_v2 : FVec F S2x256x1024 .f32 := broadcastInDim S2x256x1024 ![] bcast_S_S2x256x1024 main_cst
  let main_v3 : IVec S2x256x1024 1 := cmpf .olt main_v1 main_v2
  let main_c : IVec S_ 1 := constantI S_ 1 1#1
  let main_v4 : IVec S_ 1 := (fun x v => Host.reduce IntOp.andi x v reducesTo_S2x256x1024_S_d0_1_2 h_S_) main_v3 main_c
  let main_c_0 : IVec S_ 1 := constantI S_ 1 1#1
  let main_v5 : IVec S_ 1 := andi main_c_0 main_v4
  let main_v6 : FVec F S1024x128 .f32 := (extf .f32 · bitsLt_bf16_f32) main_arg1
  let main_v7 : FVec F S1024x128 .f32 := Host.absf main_v6
  let main_cst_1 : FVec F S_ .f32 := constant S_ .f32 0x7F800000#32
  let main_v8 : FVec F S1024x128 .f32 := broadcastInDim S1024x128 ![] bcast_S_S1024x128 main_cst_1
  let main_v9 : IVec S1024x128 1 := cmpf .olt main_v7 main_v8
  let main_c_2 : IVec S_ 1 := constantI S_ 1 1#1
  let main_v10 : IVec S_ 1 := (fun x v => Host.reduce IntOp.andi x v reducesTo_S1024x128_S_d0_1 h_S_) main_v9 main_c_2
  let main_v11 : IVec S_ 1 := andi main_v5 main_v10
  let main_v12 : FVec F S128x1024 .f32 := (extf .f32 · bitsLt_bf16_f32) main_arg2
  let main_v13 : FVec F S128x1024 .f32 := Host.absf main_v12
  let main_cst_3 : FVec F S_ .f32 := constant S_ .f32 0x7F800000#32
  let main_v14 : FVec F S128x1024 .f32 := broadcastInDim S128x1024 ![] bcast_S_S128x1024 main_cst_3
  let main_v15 : IVec S128x1024 1 := cmpf .olt main_v13 main_v14
  let main_c_4 : IVec S_ 1 := constantI S_ 1 1#1
  let main_v16 : IVec S_ 1 := (fun x v => Host.reduce IntOp.andi x v reducesTo_S128x1024_S_d0_1 h_S_) main_v15 main_c_4
  fn_part1 (F := F) main_arg4 main_arg5 main_arg6 main_v11 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x64 : Shape := ⟨2, ![512, 64]⟩
abbrev S2x64x1024 : Shape := ⟨3, ![2, 64, 1024]⟩
abbrev S512x128 : Shape := ⟨2, ![512, 128]⟩
abbrev S2x128x1024 : Shape := ⟨3, ![2, 128, 1024]⟩
abbrev S512x2048 : Shape := ⟨2, ![512, 2048]⟩
abbrev S2 : Shape := ⟨1, ![2]⟩
abbrev S_ : Shape := ⟨0, ![]⟩
abbrev S512x1024 : Shape := ⟨2, ![512, 1024]⟩
abbrev S1x64x1024 : Shape := ⟨3, ![1, 64, 1024]⟩
abbrev S1 : Shape := ⟨1, ![1]⟩
abbrev S512x32 : Shape := ⟨2, ![512, 32]⟩
abbrev S512x512 : Shape := ⟨2, ![512, 512]⟩
abbrev S1x128x1024 : Shape := ⟨3, ![1, 128, 1024]⟩
abbrev S128x1024 : Shape := ⟨2, ![128, 1024]⟩
abbrev S2x256x2048 : Shape := ⟨3, ![2, 256, 2048]⟩
abbrev S2x256x128 : Shape := ⟨3, ![2, 256, 128]⟩
abbrev S2x256x256 : Shape := ⟨3, ![2, 256, 256]⟩
abbrev S2x256x64 : Shape := ⟨3, ![2, 256, 64]⟩
abbrev S2x64x256 : Shape := ⟨3, ![2, 64, 256]⟩
abbrev S2x256 : Shape := ⟨2, ![2, 256]⟩
abbrev S2x1x256 : Shape := ⟨3, ![2, 1, 256]⟩
abbrev S1x64x256 : Shape := ⟨3, ![1, 64, 256]⟩
abbrev S64x256 : Shape := ⟨2, ![64, 256]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .bf16⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .bf16⟩
  | .local _ .vmem, ⟨9, _⟩ => ⟨S512x64, .bf16⟩
  | .local _ .vmem, ⟨10, _⟩ => ⟨S512x64, .bf16⟩
  | .local _ .vmem, ⟨11, _⟩ => ⟨S2x64x1024, .bf16⟩
  | .local _ .vmem, ⟨12, _⟩ => ⟨S2x64x1024, .bf16⟩
  | .local _ .vmem, ⟨13, _⟩ => ⟨S512x128, .bf16⟩
  | .local _ .vmem, ⟨14, _⟩ => ⟨S2x128x1024, .bf16⟩
  | .local _ .vmem, ⟨15, _⟩ => ⟨S512x2048, .bf16⟩
  | .local _ .vmem, ⟨16, _⟩ => ⟨S512x2048, .bf16⟩
  | .local _ .vmem, ⟨17, _⟩ => ⟨S1024x512, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v30 : BitVec 32 := Scalar.muli v2 c4_i32_22
  let v31 : BitVec 32 := Scalar.addi c0_i32_23 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v32 : BitVec 32 := Scalar.muli v5 c2_i32_24
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v34 : BitVec 32 := Scalar.muli v9 c1_i32_25
  let v35 : BitVec 32 := Scalar.addi v33 v34
  v35.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v47 : BitVec 32 := Scalar.muli v2 c4_i32_32
  let v48 : BitVec 32 := Scalar.addi c0_i32_33 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v49 : BitVec 32 := Scalar.muli v5 c2_i32_34
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_35 : BitVec 32 := 1#32
  let v51 : BitVec 32 := Scalar.muli v9 c1_i32_35
  let v52 : BitVec 32 := Scalar.addi v50 v51
  v52.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x128, .bf16⟩
  | .hbm, ⟨2, _⟩ => ⟨S128x1024, .bf16⟩
  | .hbm, ⟨3, _⟩ => ⟨S128x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x128, .f32⟩
  | .hbm, ⟨10, _⟩ => ⟨S128x1024, .f32⟩
  | .hbm, ⟨11, _⟩ => ⟨S128x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x128, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S2x16x256x256, .f32⟩
  | .hbm, ⟨28, _⟩ => ⟨S2x256x16x32, .f32⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256x256, .f32⟩
  | .hbm, ⟨33, _⟩ => ⟨S2x16x256x256, .f32⟩
  | .hbm, ⟨34, _⟩ => ⟨S_, .f32⟩
  | .hbm, ⟨35, _⟩ => ⟨S2x16x256, .f32⟩
  | .hbm, ⟨36, _⟩ => ⟨S2x16x256x1, .f32⟩
  | .hbm, ⟨37, _⟩ => ⟨S2x16x256x256, .f32⟩
  | .hbm, ⟨38, _⟩ => ⟨S2x16x256x256, .f32⟩
  | .hbm, ⟨39, _⟩ => ⟨S2x16x256x256, .f32⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S2x16x256x256, .f32⟩
  | .hbm, ⟨44, _⟩ => ⟨S2x16x256x256, .f32⟩
  | .hbm, ⟨45, _⟩ => ⟨S2x16x64x256, .f32⟩
  | .hbm, ⟨46, _⟩ => ⟨S2x256x16x64, .f32⟩
  | .hbm, ⟨47, _⟩ => ⟨S2x256x1024, .f32⟩
  | .hbm, ⟨48, _⟩ => ⟨S2x256x1024, .f32⟩
  | .hbm, ⟨49, _⟩ => ⟨S2x256x1024, .bf16⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Protocol.lean ====
/-
# The exchange between the two devices of a z pair

Every device swaps two buffers with the one device that differs from it in the last mesh coordinate (`mate`).
A device uses five counters:

* the barrier: waited for once by the device, signalled once by its mate. The mate's signal hands over the mate's two
  landing buffers, which the device may then write by its copies;
* the departure counters of the weight copy and of the latent copy: waited for by the device, raised by its own copies,
  which give the two source buffers back;
* the arrival counters of the two copies: waited for by the device, raised by the mate's copies, which leave in the
  device's landing buffers what the mate sent.

Barrier waits sit below the arrival counters in the order of waits, so no ring of waits can form.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.VecWindow

@[expose] public section

noncomputable section

namespace Cert.Latent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own rounds and those of the exchange. -/
abbrev UU : Type := UR sig nD τ × UR sig nD τ

local notation "𝕄" => MT nD τ sig Unit (Elt F) ℕ UU ℕ

/-- The windows' part of the ghost state. -/
abbrev EP : Emb (UR sig nD τ) (MT nD τ sig Unit (Elt F) ℕ UU ℕ) := embL
/-- The counters' part of the ghost state. -/
abbrev EX : Emb (UR sig nD τ) (MT nD τ sig Unit (Elt F) ℕ UU ℕ) := embR

variable (m : (ℓ : Loc nD τ sig) → Buf (Elt F) ℓ)

/-! ## The mate -/

/-- The device with the last mesh coordinate flipped. -/
def mate (c : Dev nD) : Dev nD := ⟨2 * (c.val / 2) + (1 - c.val % 2), by have h : c.val < 8 := c.isLt; show _ < 8; omega⟩

/-- The mate of the mate is the device. -/
theorem mate_mate (c : Dev nD) : mate (mate c) = c := by revert c; decide

/-- The three device words of the kernel name the mate. -/
theorem dev_signal (c : Dev nD) : (⟨k0_dev1 c, k0_dev1_lt c⟩ : Dev nD) = mate c := by revert c; decide +kernel
/-- The copy of the weights goes to the mate. -/
theorem dev_weights (c : Dev nD) : (⟨k0_dev2 c, k0_dev2_lt c⟩ : Dev nD) = mate c := by revert c; decide +kernel
/-- The copy of the latent rows goes to the mate. -/
theorem dev_latent (c : Dev nD) : (⟨k0_dev3 c, k0_dev3_lt c⟩ : Dev nD) = mate c := by revert c; decide +kernel

/-- The flip as a permutation of the devices. -/
def flip : Dev nD ≃ Dev nD := ⟨mate, mate, mate_mate, mate_mate⟩

/-! ## The counters -/

/-- Where the weights are sent from. -/
abbrev wSrc : Memref sig .tc .vmem S2x64x1024 .bf16 := Memref.whole cc0_scratch2
/-- Where the weights arrive. -/
abbrev wDst : Memref sig .tc .vmem S2x64x1024 .bf16 := Memref.whole cc0_scratch3
/-- Where the latent rows are sent from. -/
abbrev cSrc : Memref sig .tc .vmem S512x64 .bf16 := Memref.whole cc0_scratch0
/-- Where the latent rows arrive. -/
abbrev cDst : Memref sig .tc .vmem S512x64 .bf16 := Memref.whole cc0_scratch1

/-- The barrier. -/
abbrev barS : Sem sig := (SemArray.scalar (sig.barrier 0 rfl) : Sems sig S_).sem
/-- Raised when the weights have left. -/
abbrev wOutS : DmaSem sig := (((cc0_scratch9 : DmaSems sig S2).slice (Rect.unit (s := S2) ![1] S1.size inb_S2_S1_1)).squeeze S_ squeezes_S1_S_).sem
/-- Raised when the weights have arrived. -/
abbrev wInS : DmaSem sig := (((cc0_scratch10 : DmaSems sig S2).slice (Rect.unit (s := S2) ![1] S1.size inb_S2_S1_1)).squeeze S_ squeezes_S1_S_).sem
/-- Raised when the latent rows have left. -/
abbrev cOutS : DmaSem sig := (((cc0_scratch9 : DmaSems sig S2).slice (Rect.unit (s := S2) ![0] S1.size inb_S2_S1_0)).squeeze S_ squeezes_S1_S_).sem
/-- Raised when the latent rows have arrived. -/
abbrev cInS : DmaSem sig := (((cc0_scratch10 : DmaSems sig S2).slice (Rect.unit (s := S2) ![0] S1.size inb_S2_S1_0)).squeeze S_ squeezes_S1_S_).sem

/-- The five counters of a device, by number: barrier, weights out, weights in, latent out, latent in. -/
abbrev ctr : Fin 5 → SemLoc sig
  | 0 => .reg barS | 1 => .dma wOutS | 2 => .dma wInS | 3 => .dma cOutS | 4 => .dma cInS

/-- The five counters are different. -/
theorem ctr_injective : Function.Injective ctr := by decide

/-- Counter `k` of device `c`. -/
abbrev cell (c : Dev nD) (k : Fin 5) : GSem nD τ sig := ((c : Thread nD τ), ctr k)

/-- A counter tells its device and its number. -/
theorem cell_inj {c c' : Dev nD} {k k' : Fin 5} (h : cell c k = cell c' k') : c = c' ∧ k = k' :=
  ⟨congrArg (fun g : GSem nD τ sig => g.1.1) h, ctr_injective (congrArg Prod.snd h)⟩

/-- The number of a counter, if it is one of the five. -/
def num (s : SemLoc sig) : Option (Fin 5) :=
  if s = ctr 0 then some 0 else if s = ctr 1 then some 1 else if s = ctr 2 then some 2
    else if s = ctr 3 then some 3 else if s = ctr 4 then some 4 else none

/-- The number of a numbered counter. -/
theorem num_ctr (k : Fin 5) : num (ctr k) = some k := by revert k; decide

/-- What a copy of the weights and a copy of the latent raise their counters by. -/
abbrev wUnits : ℕ := (wDst : Memref sig .tc .vmem S2x64x1024 .bf16).view.dmaCredit
/-- What a copy of the latent raises its counters by. -/
abbrev cUnits : ℕ := (cDst : Memref sig .tc .vmem S512x64 .bf16).view.dmaCredit

/-- What counter `k` is raised by. -/
def units : Fin 5 → ℕ
  | 0 => 1 | 1 => wUnits | 2 => wUnits | 3 => cUnits | 4 => cUnits

/-- Every counter is raised by something. -/
theorem units_pos (k : Fin 5) : 0 < units k := by
  have hw : 0 < wUnits := View.dmaCredit_pos _ (by decide)
  have hc : 0 < cUnits := View.dmaCredit_pos _ (by decide)
  fin_cases k <;> first | exact Nat.one_pos | exact hw | exact hc

/-! ## Contents -/

/-- The inputs as a device's kernel finds them. -/
def xIn (c : Dev nD) : (cc0_stg0_0 : Ref sig .tc).ty.Contents (Elt F) := (win0_0.blk t0_0).view.read (Elt F) (m ((c : Thread nD τ).loc main_arg0))
/-- The staged columns of the down-projection. -/
def dIn (c : Dev nD) : (cc0_stg1_0 : Ref sig .tc).ty.Contents (Elt F) := (win0_1.blk t0_0).view.read (Elt F) (m ((c : Thread nD τ).loc main_arg1))
/-- The staged rows of the key weights. -/
def ukIn (c : Dev nD) : (cc0_stg2_0 : Ref sig .tc).ty.Contents (Elt F) := (win0_2.blk t0_0).view.read (Elt F) (m ((c : Thread nD τ).loc main_arg2))
/-- The staged rows of the value weights. -/
def uvIn (c : Dev nD) : (cc0_stg3_0 : Ref sig .tc).ty.Contents (Elt F) := (win0_3.blk t0_0).view.read (Elt F) (m ((c : Thread nD τ).loc main_arg3))
/-- The staged query weights. -/
def qIn (c : Dev nD) : (cc0_stg4_0 : Ref sig .tc).ty.Contents (Elt F) := (win0_4.blk t0_0).view.read (Elt F) (m ((c : Thread nD τ).loc main_arg4))
/-- The staged rotary query weights. -/
def qrIn (c : Dev nD) : (cc0_stg5_0 : Ref sig .tc).ty.Contents (Elt F) := (win0_5.blk t0_0).view.read (Elt F) (m ((c : Thread nD τ).loc main_arg5))
/-- The staged rotary key weights. -/
def krIn (c : Dev nD) : (cc0_stg6_0 : Ref sig .tc).ty.Contents (Elt F) := (win0_6.blk t0_0).view.read (Elt F) (m ((c : Thread nD τ).loc main_arg6))
/-- The staged output weights. -/
def oIn (c : Dev nD) : (cc0_stg7_0 : Ref sig .tc).ty.Contents (Elt F) := (win0_7.blk t0_0).view.read (Elt F) (m ((c : Thread nD τ).loc main_arg7))

/-- What a device sends of the latent: its own columns. -/
def cSent (c : Dev nD) : (cc0_scratch0 : Ref sig .tc).ty.Contents (Elt F) := k0_pay8 (k0_pay3 (xIn m c)) (dIn m c)

/-- What a device sends of the weights: its rows of the key matrix, then its rows of the value matrix. -/
def wSent (c : Dev nD) : (cc0_scratch2 : Ref sig .tc).ty.Contents (Elt F) :=
  VecWindow.put (s := S2x64x1024) (VecWindow.put (s := S2x64x1024) (fun _ => FloatOps.ofBits .bf16 0) ![0, 0, 0] S1x64x1024.size (k0_pay4 (ukIn m c)))
    ![1, 0, 0] S1x64x1024.size (k0_pay6 (k0_pay5 (uvIn m c)))

/-- A buffer of a device held whole at `f`. -/
def held (c : Dev nD) {s : Shape} (M : Memref sig .tc .vmem s .bf16) (f : Buf (Elt F) (M.view.loc (c : Thread nD τ))) : sProp 𝕄 :=
  M.view.loc (c : Thread nD τ) ↦[M.view.set]{fullShare} f

instance held_storable (c : Dev nD) {s : Shape} (M : Memref sig .tc .vmem s .bf16) (f : Buf (Elt F) (M.view.loc (c : Thread nD τ))) :
    BI.Storable (upEmb : UEmb _ 𝕄) (held (F := F) c M f) := by unfold held; infer_instance

/-- Holding a whole buffer, without its view. -/
theorem held_eq (c : Dev nD) {s : Shape} (M : Memref sig .tc .vmem s .bf16) (hM : M.view.set = Finset.univ) (f : Buf (Elt F) (M.view.loc (c : Thread nD τ))) :
    held c M f = (M.view.loc (c : Thread nD τ) ↦{fullShare} f : sProp 𝕄) := by
  unfold held; rw [hM]

/-! ## The schedule -/

/-- What the wait on counter `k` of device `c` brings. -/
def brings (c : Dev nD) : Fin 5 → sProp 𝕄
  | 0 => iprop((∃ f, held (mate c) wDst f) ∗ ∃ f, held (mate c) cDst f)
  | 1 => held c wSrc (wSent m c)
  | 2 => held c wDst (wSent m (mate c))
  | 3 => held c cSrc (cSent m c)
  | 4 => held c cDst (cSent m (mate c))

instance brings_storable (c : Dev nD) (k : Fin 5) : BI.Storable (upEmb : UEmb _ 𝕄) (brings m c k) := by
  fin_cases k <;> (dsimp only [brings]; infer_instance)

/-- Each counter of a TensorCore is raised once, by one party. -/
def plan : Rounds.Schedule (GSem nD τ sig) Unit 𝕄 where
  duties g r := if r = 0 ∧ g.1.2 = .tc ∧ (num g.2).isSome then {()} else ∅
  unitless _ := False
  amount g _ _ := (num g.2).elim 1 units
  payload g _ _ := (num g.2).elim iprop(emp) (brings m g.1.1)
  amount_pos g _ _ _ := by
    rcases h : num g.2 with _ | k
    · exact Nat.one_pos
    · exact units_pos k

instance plan_storable (g : GSem nD τ sig) (r : ℕ) (d : Unit) : BI.Storable (upEmb : UEmb _ 𝕄) ((plan (F := F) m).payload g r d) := by
  show BI.Storable upEmb ((num g.2).elim iprop(emp) (brings m g.1.1))
  rcases h : num g.2 with _ | k
  · dsimp only [Option.elim]; infer_instance
  · dsimp only [Option.elim]; infer_instance

section Facts
variable (c : Dev nD) (k : Fin 5)

/-- In the first round every counter has one duty. -/
theorem duties_now : (plan (F := F) m).duties (cell c k) 0 = {()} := by
  dsimp only [plan, cell]; rw [num_ctr]; exact if_pos ⟨rfl, rfl, rfl⟩
/-- That duty is there. -/
theorem duty_mem : () ∈ (plan (F := F) m).duties (cell c k) 0 := by rw [duties_now]; exact Finset.mem_singleton_self _
/-- No counter has a duty after the first round. -/
theorem duties_after (g : GSem nD τ sig) : ∀ r, 1 ≤ r → (plan (F := F) m).duties g r = ∅ :=
  fun r hr => by dsimp only [plan]; exact if_neg fun h => by omega
/-- What the duty raises the counter by. -/
theorem amount_now (u : Unit) : (plan (F := F) m).amount (cell c k) 0 u = units k := by
  dsimp only [plan, cell]; rw [num_ctr]; rfl
/-- What the duty brings. -/
theorem payload_now (u : Unit) : (plan (F := F) m).payload (cell c k) 0 u = brings m c k := by
  dsimp only [plan, cell]; rw [num_ctr]; rfl
/-- What a round brings in all. -/
theorem expect_now : (plan (F := F) m).expect (cell c k) 0 = units k := by
  unfold Schedule.expect Schedule.amountOf; rw [duties_now, Finset.sum_singleton, amount_now]
/-- What is still to come before anything is paid. -/
theorem rest_now : bigSep ((plan (F := F) m).duties (cell c k) 0 \ ∅) (fun u => (plan (F := F) m).payload (cell c k) 0 u) = brings m c k := by
  rw [Finset.sdiff_empty, duties_now, bigSep_singleton, payload_now]

end Facts

/-! ## What a device owes, and the order of the waits -/

/-- What a device owes counter `k` of its mate: a signal, a copy of the weights, a copy of the latent. -/
def due : Fin 5 → ℕ
  | 0 => 1 | 1 => 0 | 2 => wUnits | 3 => 0 | 4 => cUnits

/-- The debts in the order they are paid: signal, weights, latent. -/
def O₂ (c : Dev nD) : CellTallies nD τ sig Unit := tallyAt (cell (mate c) 4) () cUnits
/-- The debts left after the signal. -/
def O₁ (c : Dev nD) : CellTallies nD τ sig Unit := O₂ c + tallyAt (cell (mate c) 2) () wUnits
/-- All the debts of a device. -/
def O₀ (c : Dev nD) : CellTallies nD τ sig Unit := O₁ c + tallyAt (cell (mate c) 0) () 1

/-- The counters that have a level: those of the cores that run the kernel. -/
def L (g : GSem nD τ sig) : Finset Unit := if g.1.2 = .tc then {()} else ∅
/-- Arrivals above the barrier, everything else below. -/
def rank : Option (Fin 5) → ℕ
  | some 0 => 1 | some 2 => 2 | some 4 => 2 | _ => 0
/-- The level of a counter. -/
def lv (g : GSem nD τ sig) (_ : Unit) : ℕ := rank (num g.2)
/-- No level elsewhere. -/
theorem L_of_ne (g : GSem nD τ sig) (h : g.1.2 ≠ .tc) : L g = ∅ := if_neg h
/-- A level on those cores. -/
theorem L_tc (c : Dev nD) (sm : SemLoc sig) : L ((c : Thread nD τ), sm) = {()} := if_pos rfl
/-- The level of a numbered counter. -/
theorem lv_cell (c : Dev nD) (k : Fin 5) (u : Unit) : lv (cell c k) u = rank (some k) := by
  dsimp only [lv, cell]; rw [num_ctr]

/-- A debt to one counter is to no other. -/
theorem of_tally {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- Whom the debts after the signal are to. -/
theorem of_O₁ {c : Dev nD} {g : GSem nD τ sig} {u : Unit} (h : 0 < O₁ c g u) : g = cell (mate c) 4 ∨ g = cell (mate c) 2 := by
  unfold O₁ O₂ at h
  rw [Pi.add_apply, Finsupp.add_apply] at h
  rcases Nat.add_pos_iff_pos_or_pos.mp h with h | h
  · exact Or.inl (of_tally h)
  · exact Or.inr (of_tally h)

/-- Whom all the debts are to. -/
theorem of_O₀ {c : Dev nD} {g : GSem nD τ sig} {u : Unit} (h : 0 < O₀ c g u) :
    g = cell (mate c) 4 ∨ g = cell (mate c) 2 ∨ g = cell (mate c) 0 := by
  unfold O₀ at h
  rw [Pi.add_apply, Finsupp.add_apply] at h
  rcases Nat.add_pos_iff_pos_or_pos.mp h with h | h
  · exact (of_O₁ h).imp_right Or.inl
  · exact Or.inr (Or.inr (of_tally h))

/-- A counter of level 0 may be waited for at any time. -/
theorem mayWait_low (c : Dev nD) (sm : SemLoc sig) (hq : rank (num sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases of_O₀ hg with rfl | rfl | rfl <;> exact Finset.mem_singleton_self _)
      (fun p hp => by rw [Finset.mem_singleton.mp hp]; dsimp only [lv]; rw [hq])
      (fun g u hg => by rcases of_O₀ hg with rfl | rfl | rfl <;> (rw [lv_cell]; decide))
  · rw [MayWait_zero]; iintro -; iempintro

/-- The barrier may be waited for once the signal is given. -/
theorem mayWait_bar (c : Dev nD) : (levAts L lv : sProp 𝕄) ⊢ MayWait (c : Thread nD τ) (ctr 0) () (O₁ c) :=
  MayOwe.of_cut (L := L) (lev := lv) 1 (fun p hp => by rw [Finset.mem_singleton.mp hp, L_tc]; exact Finset.mem_singleton_self _)
    (fun g u hg => by rcases of_O₁ hg with rfl | rfl <;> exact Finset.mem_singleton_self _)
    (fun p hp => by rw [Finset.mem_singleton.mp hp]; exact (lv_cell c 0 _).le)
    (fun g u hg => by rcases of_O₁ hg with rfl | rfl <;> (rw [lv_cell]; decide))

/-! ## What a body starts from -/

/-- All the counters of all the devices. -/
abbrev kcell (ck : Dev nD × Fin 5) : GSem nD τ sig := cell ck.1 ck.2

/-- The rules of every counter, and that each stands at its first round. -/
def records (K : Dev nD × Fin 5 → ℕ) : sProp 𝕄 :=
  iprop((bigSep Finset.univ fun ck : Dev nD × Fin 5 => cellInv EX (plan m) (K ck) (kcell ck))
    ∗ bigSep Finset.univ fun ck : Dev nD × Fin 5 => reached EX (kcell ck) 0)

instance records_persistent (K : Dev nD × Fin 5 → ℕ) : BI.Persistent (records m K) := by unfold records; infer_instance

/-- The rules of one counter. -/
theorem rules_at (K : Dev nD × Fin 5 → ℕ) (c : Dev nD) (k : Fin 5) : records m K ⊢ cellInv EX (plan m) (K (c, k)) (cell c k) := by
  unfold records
  exact BI.sep_and.trans (and_elimL.trans (bigSep_elim (Finset.mem_univ ((c, k) : Dev nD × Fin 5))))

/-- One counter stands at its first round. -/
theorem round_at (K : Dev nD × Fin 5 → ℕ) (c : Dev nD) (k : Fin 5) : records m K ⊢ reached EX (cell c k) 0 := by
  unfold records
  exact BI.sep_and.trans (and_elimR.trans (bigSep_elim (Finset.mem_univ ((c, k) : Dev nD × Fin 5))))

/-- The device that raises counter `k` of device `c`: itself for departures, its mate for the rest. -/
def raiser (k : Fin 5) (c : Dev nD) : Dev nD := if k = 1 ∨ k = 3 then c else mate c

/-- A device's positions at its counters and its rights to raise: its departures and its mate's others. -/
def spots (c : Dev nD) : sProp 𝕄 := bigSep Finset.univ fun k : Fin 5 => atPos EX (cell c k) 0 ∅ 0
/-- The rights of a device to raise counters. -/
def rights (c : Dev nD) : sProp 𝕄 := bigSep Finset.univ fun k : Fin 5 => dutyTok EX (cell (raiser k c) k) 0 ()

/-- A device's part of the accounts. -/
def ghost (K : Dev nD × Fin 5 → ℕ) (c : Dev nD) : sProp 𝕄 := iprop(records m K ∗ spots c ∗ rights c)

/-- The credits of the counters that the mate raises. -/
def credits (c : Dev nD) : sProp 𝕄 :=
  iprop(cred (tallyAt (cell c 0) () 1) ∗ cred (tallyAt (cell c 2) () wUnits) ∗ cred (tallyAt (cell c 4) () cUnits))

/-- What a device starts from. -/
def start (c : Dev nD) : sProp 𝕄 := iprop((∃ K, ghost m K c) ∗ credits c ∗ levAts L lv)

/-- Five things held together. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

end Cert.Latent

end
-- ==== Proof.Body.lean ====
/-
# One device's kernel

The body is run once, at any device: the handshake with the mate, the two copies, the four waits, and between them the
loads and stores. What the run leaves in the output buffer is recorded with it.
-/
module

public import proofs.«01_k».proof.Proof.Protocol

@[expose] public section

noncomputable section

namespace Cert.Latent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none

/-- A buffer of a device, whole, at contents `f`. -/
abbrev pts (c : Dev nD) (b : Ref sig .tc) (f : b.ty.Contents (Elt F)) : sProp 𝕄 := (Memref.whole b).view.loc (c : Thread nD τ) ↦[Finset.univ]{fullShare} f

/-- A copy of the weights to the mate. -/
theorem send_weights (K : Dev nD × Fin 5 → ℕ) (c n : Dev nD) (hn : n = mate c)
    {hsc : (wDst : Memref sig (Dev.tc n : Thread nD τ).2.kind .vmem S2x64x1024 .bf16).view.ref.isScScratch = false}
    {hsrc : (wSrc : Memref sig .tc .vmem S2x64x1024 .bf16).view.WordExact} {hdst : (wDst : Memref sig .tc .vmem S2x64x1024 .bf16).view.WordExact}
    {hsem : DmaTarget.Typed .vmem (.dma wInS) (.remote (Dev.tc n : Thread nD τ) (wDst : Memref sig .tc .vmem S2x64x1024 .bf16) (.dma wOutS) hsc)}
    {α : Type} {Q : α → sProp 𝕄} {k : PUnit → Prog (TpuEff nD τ sig (Elt F) Λ₀ .tc) α}
    (fn : Buf (Elt F) ((wDst : Memref sig .tc .vmem S2x64x1024 .bf16).view.loc (mate c : Thread nD τ))) (W : Waits sig Unit) :
    iprop(cellInv EX (plan m) (K (c, 1)) (cell c 1) ∗ cellInv EX (plan m) (K (mate c, 2)) (cell (mate c) 2)
        ∗ held c wSrc (wSent m c) ∗ held (mate c) wDst fn ∗ owes (c : Thread nD τ) (O₁ c) W
        ∗ dutyTok EX (cell c 1) 0 () ∗ reached EX (cell c 1) 0 ∗ dutyTok EX (cell (mate c) 2) 0 () ∗ reached EX (cell (mate c) 2) 0)
      ⊢ iprop(((cred (tallyAt (cell c 1) () wUnits) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wSrc (.remote (Dev.tc n : Thread nD τ) wDst (.dma wOutS) hsc) (.dma wInS) hsrc hdst hsem) k) Q) := by
  subst hn
  unfold held
  refine Rounds.wp_send_pointsTo 𝒱₀ EX (plan m) (c : Thread nD τ) none (κ₁ := K (c, 1)) (κ₂ := K (mate c, 2))
    (r₁ := 0) (r₂ := 0) (d₁ := ()) (d₂ := ()) (fd := fn) (duty_mem m c 1) (duty_mem m (mate c) 2)
    () () wUnits rfl (amount_now m c 1 ()) (amount_now m (mate c) 2 ()) (O₂ c) rfl (W := W) ?_ ?_
  · rw [payload_now]; exact BI.Entails.refl _
  · rw [payload_now]; unfold brings held; rw [mate_mate]
    refine Entails.of_eq (congrArg (fun f => ((wDst : Memref sig .tc .vmem S2x64x1024 .bf16).view.loc (mate c : Thread nD τ) ↦[(wDst : Memref sig .tc .vmem S2x64x1024 .bf16).view.set]{fullShare} f : sProp 𝕄)) ?_)
    show (View.whole cc0_scratch3).write (Elt F) fn ((View.whole cc0_scratch2).read (Elt F) (wSent m c)) Finset.univ = wSent m c
    rw [View.read_whole]; exact View.write_whole_univ _ _ _

/-- A copy of the latent to the mate. -/
theorem send_latent (K : Dev nD × Fin 5 → ℕ) (c n : Dev nD) (hn : n = mate c)
    {hsc : (cDst : Memref sig (Dev.tc n : Thread nD τ).2.kind .vmem S512x64 .bf16).view.ref.isScScratch = false}
    {hsrc : (cSrc : Memref sig .tc .vmem S512x64 .bf16).view.WordExact} {hdst : (cDst : Memref sig .tc .vmem S512x64 .bf16).view.WordExact}
    {hsem : DmaTarget.Typed .vmem (.dma cInS) (.remote (Dev.tc n : Thread nD τ) (cDst : Memref sig .tc .vmem S512x64 .bf16) (.dma cOutS) hsc)}
    {α : Type} {Q : α → sProp 𝕄} {k : PUnit → Prog (TpuEff nD τ sig (Elt F) Λ₀ .tc) α}
    (fn : Buf (Elt F) ((cDst : Memref sig .tc .vmem S512x64 .bf16).view.loc (mate c : Thread nD τ))) (W : Waits sig Unit) :
    iprop(cellInv EX (plan m) (K (c, 3)) (cell c 3) ∗ cellInv EX (plan m) (K (mate c, 4)) (cell (mate c) 4)
        ∗ held c cSrc (cSent m c) ∗ held (mate c) cDst fn ∗ owes (c : Thread nD τ) (O₂ c) W
        ∗ dutyTok EX (cell c 3) 0 () ∗ reached EX (cell c 3) 0 ∗ dutyTok EX (cell (mate c) 4) 0 () ∗ reached EX (cell (mate c) 4) 0)
      ⊢ iprop(((cred (tallyAt (cell c 3) () cUnits) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cSrc (.remote (Dev.tc n : Thread nD τ) cDst (.dma cOutS) hsc) (.dma cInS) hsrc hdst hsem) k) Q) := by
  subst hn
  unfold held
  refine Rounds.wp_send_pointsTo 𝒱₀ EX (plan m) (c : Thread nD τ) none (κ₁ := K (c, 3)) (κ₂ := K (mate c, 4))
    (r₁ := 0) (r₂ := 0) (d₁ := ()) (d₂ := ()) (fd := fn) (duty_mem m c 3) (duty_mem m (mate c) 4)
    () () cUnits rfl (amount_now m c 3 ()) (amount_now m (mate c) 4 ()) 0 (by unfold O₂; rw [zero_add]) (W := W) ?_ ?_
  · rw [payload_now]; exact BI.Entails.refl _
  · rw [payload_now]; unfold brings held; rw [mate_mate]
    refine Entails.of_eq (congrArg (fun f => ((cDst : Memref sig .tc .vmem S512x64 .bf16).view.loc (mate c : Thread nD τ) ↦[(cDst : Memref sig .tc .vmem S512x64 .bf16).view.set]{fullShare} f : sProp 𝕄)) ?_)
    show (View.whole cc0_scratch1).write (Elt F) fn ((View.whole cc0_scratch0).read (Elt F) (cSent m c)) Finset.univ = cSent m c
    rw [View.read_whole]; exact View.write_whole_univ _ _ _

/-- What a run of the body begins with, beside its accounts: its buffers. -/
def buffers (c : Dev nD) : sProp 𝕄 :=
  iprop(pts c cc0_stg0_0 (xIn m c) ∗ pts c cc0_stg1_0 (dIn m c) ∗ pts c cc0_stg2_0 (ukIn m c) ∗ pts c cc0_stg3_0 (uvIn m c)
    ∗ pts c cc0_stg4_0 (qIn m c) ∗ pts c cc0_stg5_0 (qrIn m c) ∗ pts c cc0_stg6_0 (krIn m c) ∗ pts c cc0_stg7_0 (oIn m c)
    ∗ (∃ f, pts c cc0_stg8_0 f))

/-- The scratch buffers, at any contents. -/
def scratch (c : Dev nD) : sProp 𝕄 :=
  iprop((∃ f, pts c cc0_scratch0 f) ∗ (∃ f, pts c cc0_scratch1 f) ∗ (∃ f, pts c cc0_scratch2 f) ∗ (∃ f, pts c cc0_scratch3 f)
    ∗ (∃ f, pts c cc0_scratch4 f) ∗ (∃ f, pts c cc0_scratch5 f) ∗ (∃ f, pts c cc0_scratch6 f) ∗ (∃ f, pts c cc0_scratch7 f)
    ∗ ∃ f, pts c cc0_scratch8 f)

/-- What it leaves: the output buffer at `out`, the inputs as they were, every counter at zero. -/
def leaves (c : Dev nD) (out : (cc0_stg8_0 : Ref sig .tc).ty.Contents (Elt F)) : sProp 𝕄 :=
  iprop((pts c cc0_stg0_0 (xIn m c) ∗ pts c cc0_stg1_0 (dIn m c) ∗ pts c cc0_stg2_0 (ukIn m c) ∗ pts c cc0_stg3_0 (uvIn m c)
      ∗ pts c cc0_stg4_0 (qIn m c) ∗ pts c cc0_stg5_0 (qrIn m c) ∗ pts c cc0_stg6_0 (krIn m c) ∗ pts c cc0_stg7_0 (oIn m c)
      ∗ pts c cc0_stg8_0 out)
    ∗ scratch c ∗ (bigSep Finset.univ fun k : Fin 5 => semVal (cell c k) 0) ∗ ∃ W, owes (c : Thread nD τ) 0 W)

/-- The kernel's body on its buffers. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_stg8_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) cc0_scratch9 cc0_scratch10

/-- Two stores that fill a stack of two blocks leave the stack of the two. -/
theorem filled_two (f : (cc0_scratch2 : Ref sig .tc).ty.Contents (Elt F)) (p q : S1x64x1024.Idx → Elt F .bf16) (z : S2x64x1024.Idx → Elt F .bf16) (i₀ i₁) :
    (View.whole cc0_scratch2).read (Elt F) ((View.whole cc0_scratch2).writes (Elt F) f
        [⟨Rect.unit (s := S2x64x1024) ![1, 0, 0] S1x64x1024.size i₁, q⟩, ⟨Rect.unit (s := S2x64x1024) ![0, 0, 0] S1x64x1024.size i₀, p⟩])
      = VecWindow.put (s := S2x64x1024) (VecWindow.put (s := S2x64x1024) z ![0, 0, 0] S1x64x1024.size p) ![1, 0, 0] S1x64x1024.size q := by
  funext y
  refine (View.read_writes_cons_unit (View.whole cc0_scratch2) f i₁ q _ y rfl).trans ?_
  unfold VecWindow.put
  refine dite_congr rfl (fun _ => rfl) fun h => ?_
  have h' : ∀ a : Fin S2x64x1024.rank, (![0, 0, 0] : Fin 3 → ℕ) a ≤ (y a).val ∧ (y a).val < (![0, 0, 0] : Fin 3 → ℕ) a + S1x64x1024.size a := by
    have b0 : (y (0 : Fin 3)).val < 2 := (y (0 : Fin 3)).isLt
    have b1 : (y (1 : Fin 3)).val < 64 := (y (1 : Fin 3)).isLt
    have b2 : (y (2 : Fin 3)).val < 1024 := (y (2 : Fin 3)).isLt
    have b : ¬ 1 ≤ (y (0 : Fin 3)).val := fun hb => h fun a => by
      match a with
      | ⟨0, _⟩ => exact ⟨hb, by show _ < 1 + 1; exact b0⟩
      | ⟨1, _⟩ => exact ⟨Nat.zero_le _, by show _ < 0 + 64; rw [Nat.zero_add]; exact b1⟩
      | ⟨2, _⟩ => exact ⟨Nat.zero_le _, by show _ < 0 + 1024; rw [Nat.zero_add]; exact b2⟩
    intro a
    match a with
    | ⟨0, _⟩ => exact ⟨Nat.zero_le _, by show _ < 0 + 1; exact Nat.not_le.mp b⟩
    | ⟨1, _⟩ => exact ⟨Nat.zero_le _, by show _ < 0 + 64; rw [Nat.zero_add]; exact b1⟩
    | ⟨2, _⟩ => exact ⟨Nat.zero_le _, by show _ < 0 + 1024; rw [Nat.zero_add]; exact b2⟩
  refine (View.read_writes_cons_unit (View.whole cc0_scratch2) f i₀ p _ y rfl).trans ?_
  exact dite_congr rfl (fun _ => rfl) (fun hn => absurd h' hn)

/-- Two zeros, as a constant function. -/
theorem zeros₂ : (![0, 0] : Fin 2 → ℕ) = fun _ => 0 := funext fun a => by fin_cases a <;> rfl
/-- Three zeros, as a constant function. -/
theorem zeros₃ : (![0, 0, 0] : Fin 3 → ℕ) = fun _ => 0 := funext fun a => by fin_cases a <;> rfl

/-- A buffer stored whole holds what was stored. -/
theorem one_store (b : Ref sig .tc) {off : Fin b.ty.shape.rank → ℕ} (hz : off = fun _ => 0) (inb : ∀ a, off a + b.ty.shape.size a ≤ b.ty.shape.size a)
    (f w : b.ty.Contents (Elt F)) : (View.whole b).writes (Elt F) f [⟨Rect.unit (s := b.ty.shape) off b.ty.shape.size inb, w⟩] = w := by
  subst hz
  refine (View.read_whole (Val := Elt F) b _).symm.trans (funext fun y => ?_)
  exact View.read_writes_cons_unit_of_mem (View.whole b) f inb w [] y y rfl fun a => (Nat.zero_add _).symm

/-- The outgoing weights once both halves are stored. -/
theorem weights_ready (c : Dev nD) (f : (cc0_scratch2 : Ref sig .tc).ty.Contents (Elt F)) :
    pts c cc0_scratch2 ((Memref.whole cc0_scratch2).view.writes (Elt F) f
        [⟨Rect.unit (s := S2x64x1024) ![1, 0, 0] S1x64x1024.size inb_S2x64x1024_S1x64x1024_1_0_0,
            k0_pay6 (k0_pay5 ((Memref.whole cc0_stg3_0).view.readAt (Elt F) (Rect.unit (s := S64x1024) ![0, 0] S64x1024.size inb_S64x1024_S64x1024_0_0).toLoadRect (uvIn m c)))⟩,
          ⟨Rect.unit (s := S2x64x1024) ![0, 0, 0] S1x64x1024.size inb_S2x64x1024_S1x64x1024_0_0_0,
            k0_pay4 ((Memref.whole cc0_stg2_0).view.readAt (Elt F) (Rect.unit (s := S64x1024) ![0, 0] S64x1024.size inb_S64x1024_S64x1024_0_0).toLoadRect (ukIn m c))⟩])
      ⊢ held c wSrc (wSent m c) := by
  rw [held_eq _ _ (View.set_whole _)]
  refine Entails.of_eq (congrArg (fun g => (pts c cc0_scratch2 g : sProp 𝕄)) ?_)
  have e₁ : (Memref.whole cc0_stg3_0).view.readAt (Elt F) (Rect.unit (s := S64x1024) ![0, 0] S64x1024.size inb_S64x1024_S64x1024_0_0).toLoadRect (uvIn m c) = uvIn m c :=
    Memref.readAt_unit_zero (Elt F) cc0_stg3_0 zeros₂ _ (uvIn m c)
  have e₀ : (Memref.whole cc0_stg2_0).view.readAt (Elt F) (Rect.unit (s := S64x1024) ![0, 0] S64x1024.size inb_S64x1024_S64x1024_0_0).toLoadRect (ukIn m c) = ukIn m c :=
    Memref.readAt_unit_zero (Elt F) cc0_stg2_0 zeros₂ _ (ukIn m c)
  rw [e₁, e₀]
  have h := filled_two f (k0_pay4 (ukIn m c)) (k0_pay6 (k0_pay5 (uvIn m c))) (fun _ => FloatOps.ofBits .bf16 0) inb_S2x64x1024_S1x64x1024_0_0_0 inb_S2x64x1024_S1x64x1024_1_0_0
  rw [View.read_whole] at h
  exact h

/-- The outgoing latent once it is stored. -/
theorem latent_ready (c : Dev nD) (f : (cc0_scratch0 : Ref sig .tc).ty.Contents (Elt F)) :
    pts c cc0_scratch0 ((Memref.whole cc0_scratch0).view.writes (Elt F) f
        [⟨Rect.unit (s := S512x64) ![0, 0] S512x64.size inb_S512x64_S512x64_0_0,
            k0_pay8 (k0_pay3 ((Memref.whole cc0_stg0_0).view.readAt (Elt F) (Rect.unit (s := S2x256x1024) ![0, 0, 0] S2x256x1024.size inb_S2x256x1024_S2x256x1024_0_0_0).toLoadRect (xIn m c)))
              ((Memref.whole cc0_stg1_0).view.readAt (Elt F) (Rect.unit (s := S1024x64) ![0, 0] S1024x64.size inb_S1024x64_S1024x64_0_0).toLoadRect (dIn m c))⟩])
      ⊢ held c cSrc (cSent m c) := by
  rw [held_eq _ _ (View.set_whole _)]
  refine Entails.of_eq (congrArg (fun g => (pts c cc0_scratch0 g : sProp 𝕄)) ?_)
  have e₁ : (Memref.whole cc0_stg0_0).view.readAt (Elt F) (Rect.unit (s := S2x256x1024) ![0, 0, 0] S2x256x1024.size inb_S2x256x1024_S2x256x1024_0_0_0).toLoadRect (xIn m c) = xIn m c :=
    Memref.readAt_unit_zero (Elt F) cc0_stg0_0 zeros₃ _ (xIn m c)
  have e₀ : (Memref.whole cc0_stg1_0).view.readAt (Elt F) (Rect.unit (s := S1024x64) ![0, 0] S1024x64.size inb_S1024x64_S1024x64_0_0).toLoadRect (dIn m c) = dIn m c :=
    Memref.readAt_unit_zero (Elt F) cc0_stg1_0 zeros₂ _ (dIn m c)
  rw [e₁, e₀]
  exact one_store cc0_scratch0 zeros₂ _ f (cSent m c)

set_option maxHeartbeats 4000000 in
set_option maxRecDepth 20000 in
/-- The run, and with it what it leaves in the output buffer. -/
def bodyRun (K : Dev nD × Fin 5 → ℕ) (c : Dev nD) :
    { out : (cc0_stg8_0 : Ref sig .tc).ty.Contents (Elt F) // ∀ (W : Waits sig Unit) (Kt : PUnit → sProp 𝕄),
      iprop((ghost m K c ∗ credits c ∗ levAts L lv ∗ scratch c ∗ owes (c : Thread nD τ) (O₀ c) W ∗ buffers m c) ∗ (leaves m c out -∗ Kt ⟨⟩))
        ⊢ wp frame (wpE (defs₀ (F := F)) 𝒱₀ (c : Thread nD τ) none) Set.univ bodyProg Kt } := by
  refine ⟨?out, fun W Kt => ?run⟩
  case run =>
  simp only [bodyProg, cc0_body_eq_skeleton]; unfold cc0_body_skel
  simp only [k0_part1_eq_skeleton, k0_part2_eq_skeleton, k0_part12_eq_skeleton]; unfold k0_part1_skel k0_part2_skel k0_part12_skel
  unfold ghost spots rights credits scratch buffers
  rw [bigSep_five, bigSep_five]
  iintro ⟨⟨⟨#HR, ⟨Ha0, Ha1, Ha2, Ha3, Ha4⟩, ⟨Ht0, Ht1, Ht2, Ht3, Ht4⟩⟩, ⟨Hc0, Hc2, Hc4⟩, #Hlev,
    ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩⟩, HO,
    ⟨Hg0, Hg1, Hg2, Hg3, Hg4, Hg5, Hg6, Hg7, ⟨%g8, Hg8⟩⟩⟩, Hk⟩
  simp only [semSignalWord, semWaitWord, Prog.lift, Prog.bind_op, Prog.bind_ret, Prog.pure_eq_ret, wp_deviceId, dev_signal c]
  iapply (Rounds.wp_signal 𝒱₀ EX (plan m) (c : Thread nD τ) none (dst := (mate c : Thread nD τ)) (κ := K (mate c, 0))
      (duty_mem m (mate c) 0) ((amount_now m (mate c) 0 ()).trans (by decide)) () (O₁ c) rfl) $$ [HO Ht0 Hs1 Hs3]
  · isplitr; · iapply (rules_at m K (mate c) 0); iexact HR
    isplitl [HO]; · iexact HO
    isplitl [Ht0]; · iexact Ht0
    isplitl [Hs1 Hs3]
    · rw [show (plan (F := F) m).payload ((mate c : Thread nD τ), SemLoc.reg barS) 0 () = brings m (mate c) 0 from payload_now m (mate c) 0 ()]; unfold brings; rw [mate_mate]
      isplitl [Hs3]
      · iexists f3; rw [held_eq _ _ (View.set_whole _)]; iexact Hs3
      · iexists f1; rw [held_eq _ _ (View.set_whole _)]; iexact Hs1
    · iapply (round_at m K (mate c) 0); iexact HR
  iintro HO
  iapply (Rounds.wp_wait_rest_token 𝒱₀ EX (plan m) (c : Thread nD τ) none (κ := K (c, 0))
      (wpE_semWait_eq 𝒱₀ (c : Thread nD τ) none Set.univ) (Set.mem_univ _) () (O := O₁ c) (W := W) (R := 0) (m := 0) (T := ∅)
      (by rw [expect_now m c 0]; decide)) $$ [Hc0 HO Ha0]
  · isplitr; · iapply (rules_at m K c 0); iexact HR
    isplitl [Hc0]; · iexact Hc0
    isplitl [HO]; · iexact HO
    isplitr; · iapply (mayWait_bar c); iexact Hlev
    iexact Ha0
  iintro ⟨HO, Ha0, -, Hpay⟩
  ihave Hp := (Entails.of_eq (rest_now m c 0)) $$ Hpay
  unfold brings
  icases Hp with ⟨⟨%fw, Hm3⟩, ⟨%fc, Hm1⟩⟩
  unfold pts
  sl_exec
  ihave Hw := (weights_ready m c f2) $$ Hs2
  iapply (send_weights m K c _ (dev_weights c) fw _) $$ [Hw Hm3 HO Ht1 Ht2]
  · isplitr; · iapply (rules_at m K c 1); iexact HR
    isplitr; · iapply (rules_at m K (mate c) 2); iexact HR
    isplitl [Hw]; · iexact Hw
    isplitl [Hm3]; · iexact Hm3
    isplitl [HO]; · iexact HO
    isplitl [Ht1]; · iexact Ht1
    isplitr; · iapply (round_at m K c 1); iexact HR
    isplitl [Ht2]; · iexact Ht2
    iapply (round_at m K (mate c) 2); iexact HR
  iintro ⟨Hc1, HO⟩
  sl_exec
  ihave Hl := (latent_ready m c f0) $$ Hs0
  iapply (send_latent m K c _ (dev_latent c) fc _) $$ [Hl Hm1 HO Ht3 Ht4]
  · isplitr; · iapply (rules_at m K c 3); iexact HR
    isplitr; · iapply (rules_at m K (mate c) 4); iexact HR
    isplitl [Hl]; · iexact Hl
    isplitl [Hm1]; · iexact Hm1
    isplitl [HO]; · iexact HO
    isplitl [Ht3]; · iexact Ht3
    isplitr; · iapply (round_at m K c 3); iexact HR
    isplitl [Ht4]; · iexact Ht4
    iapply (round_at m K (mate c) 4); iexact HR
  iintro ⟨Hc3, HO⟩
  sl_exec
  iapply (Rounds.wp_wait_rest_token 𝒱₀ EX (plan m) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_now m c 3).symm)) $$ [Hc3 HO Ha3]
  · isplitr; · iapply (rules_at m K c 3); iexact HR
    isplitl [Hc3]; · iexact Hc3
    isplitl [HO]; · iexact HO
    isplitr; · rw [MayWait_zero]; iempintro
    iexact Ha3
  iintro ⟨HO, Ha3, -, Hpay⟩
  ihave Hs0 := (Entails.of_eq ((rest_now m c 3).trans (held_eq c cSrc (View.set_whole _) _))) $$ Hpay
  iapply (Rounds.wp_wait_rest_token 𝒱₀ EX (plan m) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_now m c 4).symm)) $$ [Hc4 HO Ha4]
  · isplitr; · iapply (rules_at m K c 4); iexact HR
    isplitl [Hc4]; · iexact Hc4
    isplitl [HO]; · iexact HO
    isplitr; · rw [MayWait_zero]; iempintro
    iexact Ha4
  iintro ⟨HO, Ha4, -, Hpay⟩
  ihave Hs1 := (Entails.of_eq ((rest_now m c 4).trans (held_eq c cDst (View.set_whole _) _))) $$ Hpay
  iapply (Rounds.wp_wait_rest_token 𝒱₀ EX (plan m) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_now m c 1).symm)) $$ [Hc1 HO Ha1]
  · isplitr; · iapply (rules_at m K c 1); iexact HR
    isplitl [Hc1]; · iexact Hc1
    isplitl [HO]; · iexact HO
    isplitr; · rw [MayWait_zero]; iempintro
    iexact Ha1
  iintro ⟨HO, Ha1, -, Hpay⟩
  ihave Hs2 := (Entails.of_eq ((rest_now m c 1).trans (held_eq c wSrc (View.set_whole _) _))) $$ Hpay
  iapply (Rounds.wp_wait_rest_token 𝒱₀ EX (plan m) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_now m c 2).symm)) $$ [Hc2 HO Ha2]
  · isplitr; · iapply (rules_at m K c 2); iexact HR
    isplitl [Hc2]; · iexact Hc2
    isplitl [HO]; · iexact HO
    isplitr; · rw [MayWait_zero]; iempintro
    iexact Ha2
  iintro ⟨HO, Ha2, -, Hpay⟩
  ihave Hs3 := (Entails.of_eq ((rest_now m c 2).trans (held_eq c wDst (View.set_whole _) _))) $$ Hpay
  sl_exec!
  imod (Rounds.cell_close EX (plan m) (Set.mem_univ (K (c, 0))) (fun h => h) (R := 0 + 1) (duties_after m (cell c 0))) $$ [Ha0] with Hz0
  · isplitr; · iapply (rules_at m K c 0); iexact HR
    iexact Ha0
  imod (Rounds.cell_close EX (plan m) (Set.mem_univ (K (c, 1))) (fun h => h) (R := 0 + 1) (duties_after m (cell c 1))) $$ [Ha1] with Hz1
  · isplitr; · iapply (rules_at m K c 1); iexact HR
    iexact Ha1
  imod (Rounds.cell_close EX (plan m) (Set.mem_univ (K (c, 2))) (fun h => h) (R := 0 + 1) (duties_after m (cell c 2))) $$ [Ha2] with Hz2
  · isplitr; · iapply (rules_at m K c 2); iexact HR
    iexact Ha2
  imod (Rounds.cell_close EX (plan m) (Set.mem_univ (K (c, 3))) (fun h => h) (R := 0 + 1) (duties_after m (cell c 3))) $$ [Ha3] with Hz3
  · isplitr; · iapply (rules_at m K c 3); iexact HR
    iexact Ha3
  imod (Rounds.cell_close EX (plan m) (Set.mem_univ (K (c, 4))) (fun h => h) (R := 0 + 1) (duties_after m (cell c 4))) $$ [Ha4] with Hz4
  · isplitr; · iapply (rules_at m K c 4); iexact HR
    iexact Ha4
  rw [wp_ret]; imodintro
  iapply Hk
  unfold leaves scratch
  rw [bigSep_five]
  isplitl [Hg0 Hg1 Hg2 Hg3 Hg4 Hg5 Hg6 Hg7 Hg8]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    iexact Hg8
  isplitl [Hs0 Hs1 Hs2 Hs3 Hs4 Hs5 Hs6 Hs7 Hs8]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iexists _; iexact Hs8
  isplitl [Hz0 Hz1 Hz2 Hz3 Hz4]
  · isplitl [Hz0]; · iexact Hz0
    isplitl [Hz1]; · iexact Hz1
    isplitl [Hz2]; · iexact Hz2
    isplitl [Hz3]; · iexact Hz3
    iexact Hz4
  iexists _; iexact HO

end Cert.Latent

end
-- ==== Proof.Run.lean ====
/-
# The run of the whole program on its mesh

The launch deals every device its positions, its rights to raise and its credits, the body run at that device uses
them, and what is left says where every array ends and that every counter is back at zero.
-/
module

public import proofs.«01_k».proof.Proof.Body
public import Idealize.ShloMosaic.Lib.Pipeline.CollectiveSegs

@[expose] public section

noncomputable section

namespace Cert.Latent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: the given memory, every counter at zero. -/
def s₀ : MemSt nD τ sig (Elt F) := ⟨m, fun _ => 0, ρ⟩

/-- What the body leaves in a device's output buffer. -/
def outAt (c : Dev nD) : (cc0_stg8_0 : Ref sig .tc).ty.Contents (Elt F) := (bodyRun m (fun _ => 0) c).1

/-- The counts at which the body starts do not bear on what it leaves. -/
theorem outAt_eq (K : Dev nD × Fin 5 → ℕ) (c : Dev nD) : (bodyRun m K c).1 = outAt m c := rfl

/-- The output buffer after the body: the one whole store of the body, over whatever the buffer held. -/
theorem outAt_writes (c : Dev nD) : outAt m c = (Memref.whole cc0_stg8_0).view.writes (Elt F) (Memref.whole cc0_stg8_0).view.junk (bodyRun.sl.Hg8_1 m c) := by
  sl_kernel_rfl

attribute [irreducible] outAt

/-- Before the body: what a device starts from and its scratch; after it: the scratch and its counters at zero. -/
def Φ₀ (c : Dev nD) : sProp 𝕄 := iprop(start m c ∗ scratch c)
/-- After the body: the scratch, and every counter at zero. -/
def Φ₁ (c : Dev nD) : sProp 𝕄 := iprop(scratch (F := F) c ∗ bigSep Finset.univ fun k : Fin 5 => semVal (cell c k) 0)

/-- The launch's data: each window's array, what its buffer holds after the body, the assertions around the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => dIn m c
    | ⟨2, _⟩ => ukIn m c
    | ⟨3, _⟩ => uvIn m c
    | ⟨4, _⟩ => qIn m c
    | ⟨5, _⟩ => qrIn m c
    | ⟨6, _⟩ => krIn m c
    | ⟨7, _⟩ => oIn m c
    | ⟨8, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer owned at contents `X`, as a points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A buffer at known contents, as a staging buffer. -/
theorem stg_intro (c : Dev nD) (b : Ref sig .tc) (X : b.ty.Contents (Elt F)) : pts c b X ⊢ stg c b X := by
  iintro H; iexists X; isplitr; · (ipureintro; rfl)
  iexact H

/-- A staging buffer, at contents equal to the recorded ones. -/
theorem stg_elim (c : Dev nD) (b : Ref sig .tc) (X Y : b.ty.Contents (Elt F)) (h : X = Y) : stg c b X ⊢ pts c b Y := by
  subst h
  iintro ⟨%f, %hf, H⟩; subst hf; iexact H

/-- What the launch gives the body, buffer by buffer. -/
def bodyPre (c : Dev nD) : sProp 𝕄 :=
  iprop(Φ₀ m c ∗ (dats m ρ 0 c).owesAt () t0_0.castSucc
    ∗ (∃ d, stg c cc0_stg0_0 ((dats m ρ 0 c).before (0 : Fin 9) t0_0 d))
    ∗ (∃ d, stg c cc0_stg1_0 ((dats m ρ 0 c).before (1 : Fin 9) t0_0 d))
    ∗ (∃ d, stg c cc0_stg2_0 ((dats m ρ 0 c).before (2 : Fin 9) t0_0 d))
    ∗ (∃ d, stg c cc0_stg3_0 ((dats m ρ 0 c).before (3 : Fin 9) t0_0 d))
    ∗ (∃ d, stg c cc0_stg4_0 ((dats m ρ 0 c).before (4 : Fin 9) t0_0 d))
    ∗ (∃ d, stg c cc0_stg5_0 ((dats m ρ 0 c).before (5 : Fin 9) t0_0 d))
    ∗ (∃ d, stg c cc0_stg6_0 ((dats m ρ 0 c).before (6 : Fin 9) t0_0 d))
    ∗ (∃ d, stg c cc0_stg7_0 ((dats m ρ 0 c).before (7 : Fin 9) t0_0 d))
    ∗ (∃ d, stg c cc0_stg8_0 ((dats m ρ 0 c).before (8 : Fin 9) t0_0 d)))
/-- What the body gives back to the launch, buffer by buffer. -/
def bodyPost (c : Dev nD) : sProp 𝕄 :=
  iprop(Φ₁ c ∗ (dats m ρ 0 c).owesAt () t0_0.succ
    ∗ stg c cc0_stg0_0 (xIn m c) ∗ stg c cc0_stg1_0 (dIn m c) ∗ stg c cc0_stg2_0 (ukIn m c) ∗ stg c cc0_stg3_0 (uvIn m c)
    ∗ stg c cc0_stg4_0 (qIn m c) ∗ stg c cc0_stg5_0 (qrIn m c) ∗ stg c cc0_stg6_0 (krIn m c) ∗ stg c cc0_stg7_0 (oIn m c)
    ∗ stg c cc0_stg8_0 (outAt m c))

/-- The launch calls the body on its buffers. -/
theorem body_at : defs₀ (F := F) Proc.tc 0 (t0_0, cfg0.slots t0_0) = bodyProg := by
  unfold defs₀ Defs.onTc
  rfl

set_option maxRecDepth 4000 in
/-- The body at a device, in the launch's terms. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [body_at]
  show bodyPre m ρ c ⊢ _
  have hp : bodyPost m ρ c = iprop((dats m ρ 0 c).Φ t0_0.succ ∗ (dats m ρ 0 c).owesAt () t0_0.succ
    ∗ stg c cc0_stg0_0 ((dats m ρ 0 c).after 0 t0_0)  ∗ stg c cc0_stg1_0 ((dats m ρ 0 c).after 1 t0_0)
    ∗ stg c cc0_stg2_0 ((dats m ρ 0 c).after 2 t0_0)  ∗ stg c cc0_stg3_0 ((dats m ρ 0 c).after 3 t0_0)
    ∗ stg c cc0_stg4_0 ((dats m ρ 0 c).after 4 t0_0)  ∗ stg c cc0_stg5_0 ((dats m ρ 0 c).after 5 t0_0)
    ∗ stg c cc0_stg6_0 ((dats m ρ 0 c).after 6 t0_0)  ∗ stg c cc0_stg7_0 ((dats m ρ 0 c).after 7 t0_0)
    ∗ stg c cc0_stg8_0 ((dats m ρ 0 c).after 8 t0_0)) := rfl
  rw [← hp]
  unfold bodyPre Φ₀ start Dat.owesAt Pipeline.owesWithin
  rw [show (dats m ρ 0 c).owed t0_0.castSucc = O₀ c from rfl]
  iintro ⟨⟨⟨⟨%K, Hg⟩, Hc, Hl⟩, Hs⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, ⟨%f8, -, H8⟩⟩⟩
  ihave H0 := (stg_elim c cc0_stg0_0 _ (xIn m c) (by unfold Dat.before; rw [if_pos (fetch0_0 t0_0)]; rfl)) $$ H0
  ihave H1 := (stg_elim c cc0_stg1_0 _ (dIn m c) (by unfold Dat.before; rw [if_pos (fetch0_1 t0_0)]; rfl)) $$ H1
  ihave H2 := (stg_elim c cc0_stg2_0 _ (ukIn m c) (by unfold Dat.before; rw [if_pos (fetch0_2 t0_0)]; rfl)) $$ H2
  ihave H3 := (stg_elim c cc0_stg3_0 _ (uvIn m c) (by unfold Dat.before; rw [if_pos (fetch0_3 t0_0)]; rfl)) $$ H3
  ihave H4 := (stg_elim c cc0_stg4_0 _ (qIn m c) (by unfold Dat.before; rw [if_pos (fetch0_4 t0_0)]; rfl)) $$ H4
  ihave H5 := (stg_elim c cc0_stg5_0 _ (qrIn m c) (by unfold Dat.before; rw [if_pos (fetch0_5 t0_0)]; rfl)) $$ H5
  ihave H6 := (stg_elim c cc0_stg6_0 _ (krIn m c) (by unfold Dat.before; rw [if_pos (fetch0_6 t0_0)]; rfl)) $$ H6
  ihave H7 := (stg_elim c cc0_stg7_0 _ (oIn m c) (by unfold Dat.before; rw [if_pos (fetch0_7 t0_0)]; rfl)) $$ H7
  iapply ((bodyRun m K c).2 W fun _ => bodyPost m ρ c)
  isplitr []
  · isplitl [Hg]; · iexact Hg
    isplitl [Hc]; · iexact Hc
    isplitl [Hl]; · iexact Hl
    isplitl [Hs]; · iexact Hs
    isplitl [HO]; · iexact HO
    unfold buffers
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists f8; iexact H8
  rw [outAt_eq]
  unfold leaves bodyPost Φ₁ Dat.owesAt Pipeline.owesWithin
  rw [show (dats m ρ 0 c).owed t0_0.succ = 0 from rfl]
  iintro ⟨⟨H0, H1, H2, H3, H4, H5, H6, H7, H8⟩, Hs, Hz, ⟨%W', HO⟩⟩
  isplitl [Hs Hz]
  · isplitl [Hs]; · iexact Hs
    iexact Hz
  isplitl [HO]
  · iexists W'; isplitr; · (ipureintro; exact fun _ _ => Or.inl trivial)
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  isplitl [H5]; · iapply (stg_intro c cc0_stg5_0); iexact H5
  isplitl [H6]; · iapply (stg_intro c cc0_stg6_0); iexact H6
  isplitl [H7]; · iapply (stg_intro c cc0_stg7_0); iexact H7
  iapply (stg_intro c cc0_stg8_0); iexact H8

/-! ## The launch -/

/-- The kernel's own counters are the four of its copies. -/
abbrev osem : Fin 4 → SemLoc sig := fun k => ctr k.succ

/-- The four counters are the kernel's own. -/
theorem ownSemFacts : Pipeline.OwnSemFacts cfg0.spec osem := by decide
/-- Every window holds its array whole. -/
theorem share_eq (c : Dev nD) (w : Fin cfg0.W) : (dats m ρ 0 c).share w = fullShare := by unfold Dat.share; split <;> rfl

/-- Counters of different devices or numbers are different. -/
theorem kcell_injective : Function.Injective (kcell : Dev nD × Fin 5 → GSem nD τ sig) := fun a b h =>
  Prod.ext (cell_inj h).1 (cell_inj h).2

/-- All the counters, as a set. -/
def allCells : Finset (GSem nD τ sig) := Finset.univ.map ⟨kcell, kcell_injective⟩
/-- All the rights to raise a counter, as a set. -/
def allToks : Finset (GSem nD τ sig × ℕ × Unit) :=
  Finset.univ.map ⟨fun ck : Dev nD × Fin 5 => (kcell ck, 0, ()), fun _ _ h => kcell_injective (congrArg Prod.fst h)⟩

/-- The ghost state at launch. -/
def u₀ : UU := (initOf (Pipeline.cells cfgs cellOf_inj) (Pipeline.launchToks cfgs cellOf_inj), initOf allCells allToks)

/-- The rights to raise a device's own counters. -/
def toks (c : Dev nD) : sProp 𝕄 := bigSep Finset.univ fun k : Fin 5 => dutyTok EX (cell c k) 0 ()

/-- What the launch sets up for the counters of a device. -/
def G (c : Dev nD) : sProp 𝕄 :=
  iprop((bigSep Finset.univ fun k : Fin 5 => roundState EX (plan m) (kcell (c, k)) 0)
    ∗ (bigSep Finset.univ fun k : Fin 5 => iprop(atPos EX (kcell (c, k)) 0 ∅ 0 ∗ reached EX (kcell (c, k)) 0)) ∗ toks c)
/-- What a device gets of the counters of all. -/
def G' (c : Dev nD) : sProp 𝕄 := iprop(∃ K, ghost m K c)

/-- The ghost state at launch is what every device is set up with. -/
theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 5 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]; rfl
  iintro HX
  imod (Rounds.fund EX (plan m) allCells allToks) $$ HX with ⟨Hst, Hr, Hat, Htok⟩
  imodintro
  ihave Hst' := (Entails.of_eq (hX fun g => roundState EX (plan m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own counters at zero, one by one. -/
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0) := by
  rw [Pipeline.ownSems0_eq_of_list c osem [0, 1, 2, 3] (by decide) (by decide)]; rfl

/-- The barrier at zero. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

/-- The five counters at zero, as the launch hands them out. -/
theorem sems0_eq (c : Dev nD) :
    (bigSep Finset.univ fun k : Fin 5 => semVal (cell c k) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_five]

/-- The rules of a device's counters are set up from the counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (plan m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 5 => semVal (cell c k) 0) ∗ bigSep Finset.univ fun k : Fin 5 => roundState EX (plan m) (kcell (c, k)) 0)
      ⊢ (|={Set.univ}=> bigSep Finset.univ fun k => iprop(∃ κ : ℕ, cellInv EX (plan m) κ (kcell (c, k))) : sProp 𝕄) from by
        rw [← bigSep_sep']
        exact (bigSep_mono fun k _ => (Rounds.body_intro EX (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every device gets the rights to raise its own departures and its mate's other counters. -/
theorem toks_across : (bigSep Finset.univ fun c : Dev nD => (toks c : sProp 𝕄)) ⊢ bigSep Finset.univ fun c : Dev nD => rights c := by
  unfold toks rights
  rw [bigSep_univ_comm, bigSep_univ_comm (fun (c : Dev nD) (k : Fin 5) => (dutyTok EX (cell (raiser k c) k) 0 () : sProp 𝕄))]
  refine bigSep_mono fun k _ => ?_
  by_cases h : k = 1 ∨ k = 3
  · refine Entails.of_eq (bigSep_congr fun c _ => ?_)
    rw [raiser, if_pos h]
  · rw [bigSep_univ_equiv flip (fun c : Dev nD => (dutyTok EX (cell c k) 0 () : sProp 𝕄))]
    refine Entails.of_eq (bigSep_congr fun c _ => ?_)
    rw [raiser, if_neg h]; rfl

/-- What all devices share goes to each of them. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The rules and rights set up at each device, handed round to those that use them. -/
theorem regroup :
    (bigSep Finset.univ fun c : Dev nD => iprop((bigSep Finset.univ fun k => iprop(∃ κ : ℕ, cellInv EX (plan m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv EX (plan m) κ (kcell ck))),
    bigSep_congr (s := Finset.univ) (fun (c : Dev nD) _ => bigSep_sep' Finset.univ (fun k : Fin 5 => (atPos EX (kcell (c, k)) 0 ∅ 0 : sProp 𝕄)) (fun k => reached EX (kcell (c, k)) 0)),
    bigSep_sep', ← bigSep_univ_prod (fun ck : Dev nD × Fin 5 => (reached EX (kcell ck) 0 : sProp 𝕄))]
  iintro ⟨HI, ⟨Hat, #HR⟩, Htok⟩
  ihave HK := (BI.bigSep_exists_pi Finset.univ (fun (ck : Dev nD × Fin 5) (κ : ℕ) => (cellInv EX (plan m) κ (kcell ck) : sProp 𝕄))) $$ HI
  icases HK with ⟨%K, #HI⟩
  ihave Htk := (toks_across (F := F)) $$ Htok
  iapply (spread (R := records m K) (Φ := fun c => iprop(spots c ∗ rights c)) fun c _ => show _ ⊢ G' m c from by
    unfold G' ghost
    iintro ⟨H, Hp, Hr⟩
    iexists K
    isplitl [H]; · iexact H
    isplitl [Hp]; · iexact Hp
    iexact Hr)
  isplitr
  · unfold records; isplitl; · iexact HI
    iexact HR
  · rw [bigSep_sep']
    isplitl [Hat]; · iexact Hat
    iexact Htk

/-- The set-up of all devices together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What device `d` owes counter `k` of device `c`. -/
theorem owed_at (d c : Dev nD) (k : Fin 5) : O₀ d (cell c k) () = if d = mate c then due k else 0 := by
  unfold O₀ O₁ O₂
  rw [Pi.add_apply, Finsupp.add_apply, Pi.add_apply, Finsupp.add_apply, tallyAt_apply, tallyAt_apply, tallyAt_apply]
  have h (j : Fin 5) : (cell c k = cell (mate d) j ∧ () = ()) ↔ (d = mate c ∧ k = j) :=
    ⟨fun e => ⟨by rw [(cell_inj e.1).1, mate_mate], (cell_inj e.1).2⟩, fun e => ⟨by rw [e.1, mate_mate, e.2], rfl⟩⟩
  rw [if_congr (h 4) rfl rfl, if_congr (h 2) rfl rfl, if_congr (h 0) rfl rfl]
  by_cases hd : d = mate c
  · simp only [hd, true_and, if_true]
    fin_cases k <;> simp [due]
  · simp only [hd, false_and, if_false]

/-- The credit that the launch gives for a counter. -/
theorem launch_at (c : Dev nD) (k : Fin 5) :
    tallyOn (cell c k) (launchCredit (Pipeline.owing O₀) 0 (cell c k)) = (tallyAt (cell c k) () (due k) : CellTallies nD τ sig Unit) := by
  unfold tallyAt; refine congrArg _ (Finsupp.ext fun u => ?_); cases u
  rw [Pipeline.launchCredit_owing, Finsupp.single_eq_same, Finset.sum_congr rfl fun d _ => owed_at d c k, Finset.sum_ite_eq' Finset.univ (mate c) fun _ => due k,
    if_pos (Finset.mem_univ _)]

/-- The launch gives each device the credits it waits with. -/
theorem creds (c : Dev nD) : (Pipeline.launchCred O₀ c : sProp 𝕄) ⊢ credits c := by
  unfold Pipeline.launchCred credits
  refine (bigSep_subset (t := (Finset.univ : Finset (Fin 5)).image ctr) (Finset.subset_univ _)).trans ?_
  rw [bigSep_image_of_injOn ctr_injective.injOn, bigSep_congr fun k _ => congrArg (fun u => (cred u : sProp 𝕄)) (launch_at c k), bigSep_five]
  show (iprop(_ ∗ _ ∗ _ ∗ _ ∗ _) : sProp 𝕄) ⊢ (iprop(_ ∗ _ ∗ _) : sProp 𝕄)
  iintro ⟨H0, -, H2, -, H4⟩
  isplitl [H0]; · iexact H0
  isplitl [H2]; · iexact H2
  iexact H4

/-! ### The run -/

/-- What a device starts from, out of what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  unfold scratch
  iexact Hr

/-- After the body. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  unfold scratch
  iintro ⟨Hr, HB, HS⟩
  isplitl [HB]; · iexact HB
  isplitl [HS]; · iexact HS
  iexact Hr

/-- The waits of the windows are allowed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- Where the array of window `w` ends on device `c`. -/
def finalA (c : Dev nD) (w : Fin cfg0.W) : Buf (Elt F) ((cfg0.win w).arr.view.loc (c : Thread nD τ)) := (dats m ρ 0 c).arrAt w cfg0.N

/-- Where a run ends: every window's array at its last contents. -/
def ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution ends, every device's arrays at `finalA`, every counter at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array ends as it began. -/
theorem final_input (c : Dev nD) (w : Fin cfg0.W) (hw : (cfg0.win w).isOut = false) :
    finalA m ρ c w = m ((cfg0.win w).arr.view.loc (c : Thread nD τ)) :=
  (dats (F := F) m ρ 0 c).arrAt_in w hw _

end Cert.Latent

end
-- ==== Proof.Frames.lean ====
/-
# The frames

Every claim that a program runs, changes no argument and leaves every counter at zero.
-/
module

public import proofs.«01_k».proof.Defs
public import proofs.«01_k».proof.Proof.Gen.Kernel
public import proofs.«01_k».proof.Proof.Run
public import proofs.«01_k».proof.Proof.Gen.ReferenceIdeal.Run

@[expose] public section

noncomputable section

namespace Cert.Latent

open Idealize.ShloMosaic Idealize.SL.Sem

/-- What the run says of the arguments of a device. -/
def argsKept {F : FTy → Type} [FloatOps F] (m m' : (ℓ : Loc KernelIdeal.nD KernelIdeal.τ KernelIdeal.sig) → Buf (Elt F) ℓ) (c : Dev KernelIdeal.nD) : Prop :=
  m' ((c.tc : Thread KernelIdeal.nD KernelIdeal.τ).loc KernelIdeal.main_arg0) = m ((c.tc : Thread KernelIdeal.nD KernelIdeal.τ).loc KernelIdeal.main_arg0)
  ∧ m' ((c.tc : Thread KernelIdeal.nD KernelIdeal.τ).loc KernelIdeal.main_arg1) = m ((c.tc : Thread KernelIdeal.nD KernelIdeal.τ).loc KernelIdeal.main_arg1)
  ∧ m' ((c.tc : Thread KernelIdeal.nD KernelIdeal.τ).loc KernelIdeal.main_arg2) = m ((c.tc : Thread KernelIdeal.nD KernelIdeal.τ).loc KernelIdeal.main_arg2)
  ∧ m' ((c.tc : Thread KernelIdeal.nD KernelIdeal.τ).loc KernelIdeal.main_arg3) = m ((c.tc : Thread KernelIdeal.nD KernelIdeal.τ).loc KernelIdeal.main_arg3)
  ∧ m' ((c.tc : Thread KernelIdeal.nD KernelIdeal.τ).loc KernelIdeal.main_arg4) = m ((c.tc : Thread KernelIdeal.nD KernelIdeal.τ).loc KernelIdeal.main_arg4)
  ∧ m' ((c.tc : Thread KernelIdeal.nD KernelIdeal.τ).loc KernelIdeal.main_arg5) = m ((c.tc : Thread KernelIdeal.nD KernelIdeal.τ).loc KernelIdeal.main_arg5)
  ∧ m' ((c.tc : Thread KernelIdeal.nD KernelIdeal.τ).loc KernelIdeal.main_arg6) = m ((c.tc : Thread KernelIdeal.nD KernelIdeal.τ).loc KernelIdeal.main_arg6)
  ∧ m' ((c.tc : Thread KernelIdeal.nD KernelIdeal.τ).loc KernelIdeal.main_arg7) = m ((c.tc : Thread KernelIdeal.nD KernelIdeal.τ).loc KernelIdeal.main_arg7)

/-- Where the run ends, every argument is as it was. -/
theorem ends_args {F : FTy → Type} [FloatOps F] (m : (ℓ : Loc KernelIdeal.nD KernelIdeal.τ KernelIdeal.sig) → Buf (Elt F) ℓ) (ρ : Dev KernelIdeal.nD → PrngReg)
    (r) (h : ends m ρ r) (c : Dev KernelIdeal.nD) : argsKept m r.2.mem c :=
  ⟨(h c (0 : Fin 9)).trans (final_input m ρ c (0 : Fin 9) rfl), (h c (1 : Fin 9)).trans (final_input m ρ c (1 : Fin 9) rfl),
    (h c (2 : Fin 9)).trans (final_input m ρ c (2 : Fin 9) rfl), (h c (3 : Fin 9)).trans (final_input m ρ c (3 : Fin 9) rfl),
    (h c (4 : Fin 9)).trans (final_input m ρ c (4 : Fin 9) rfl), (h c (5 : Fin 9)).trans (final_input m ρ c (5 : Fin 9) rfl),
    (h c (6 : Fin 9)).trans (final_input m ρ c (6 : Fin 9) rfl), (h c (7 : Fin 9)).trans (final_input m ρ c (7 : Fin 9) rfl)⟩

/-- The kernel runs, changes no argument and leaves every counter at zero: at every float instance. -/
theorem run_kept {F : FTy → Type} [FloatOps F] (m : (ℓ : Loc KernelIdeal.nD KernelIdeal.τ KernelIdeal.sig) → Buf (Elt F) ℓ) (ρ : Dev KernelIdeal.nD → PrngReg) :
    θ_run KernelIdeal.defs (onTc (τ := KernelIdeal.τ) (KernelIdeal.main (F := F))) ⟨m, fun _ => 0, ρ⟩
      (fun r => (∀ c, argsKept m r.2.mem c) ∧ r.2.sem = fun _ => 0) :=
  (θ_run KernelIdeal.defs _ _).mono (fun r h => ⟨ends_args m ρ r h.1, h.2⟩) (run_main m ρ)

/-- The frame of the kernel at the ideal instance. -/
theorem frame_ideal : Cert.quiescent_KernelIdeal := fun m ρ _ => run_kept m ρ

/-! The kernel and its reading at the ideal instance are one text: the same bodies, the same `@main`. -/

set_option maxRecDepth 100000 in
/-- The two programs have the same bodies. -/
theorem bodies_same {F : FTy → Type} [FloatOps F] : Cert.Kernel.defs₀ (F := F) = Cert.KernelIdeal.defs₀ (F := F) := by
  unfold Cert.Kernel.defs₀ Cert.KernelIdeal.defs₀
  refine congrArg _ ?_
  funext x y
  obtain ⟨n, h⟩ := x
  cases n with
  | zero => rfl
  | succ n => exact absurd h (Nat.not_lt.2 (Nat.le_add_left _ _))

/-- The two programs define the same procedures. -/
theorem defs_same {F : FTy → Type} [FloatOps F] : Cert.Kernel.defs (F := F) = Cert.KernelIdeal.defs (F := F) :=
  congrArg (Pipeline.defs Cert.KernelIdeal.pcfgs) bodies_same

/-- The frame of the kernel. -/
theorem frame_kernel : Cert.quiescent_Kernel := fun m ρ _ => by
  rw [defs_same]
  exact run_kept (F := Bits) m ρ

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Latent

end
-- ==== Proof.Heads.lean ====
/-
# One head of the attention, read at an index

The kernel computes each head from three wide arrays (queries, keys, values). Here the head is written once, for any head
number, and read down to sums over the extended reals.
-/
module

public import proofs.«01_k».proof.Proof.Body
public import Idealize.ShloMosaic.Lib.Pointwise

@[expose] public section

set_option maxRecDepth 16384

noncomputable section

namespace Cert.Latent

open Cert.KernelIdeal Cert.KernelIdeal.Gen
open Idealize.ShloMosaic

/-- The position of row `s` of batch `b` among the rows of both batches. -/
def rowOf (b : Fin 2) (s : Fin 256) : Fin 512 := ⟨b.val * 256 + s.val, by omega⟩
/-- Lane `j` of head `h` in the array of queries or keys. -/
def laneOf (h : Fin 16) (j : Fin 128) : Fin 2048 := ⟨h.val * 128 + j.val, by omega⟩
/-- Feature `d` of head `h` in the array of values. -/
def featOf (h : Fin 16) (d : Fin 64) : Fin 1024 := ⟨h.val * 64 + d.val, by omega⟩

/-- The exponential of a score: query row `s` against key row `t`. -/
def expAt (Q K : Vec Ideal S512x2048 .bf16) (h : Fin 16) (b : Fin 2) (s t : Fin 256) : EReal :=
  Ideal.exp (∑ j : Fin 128, Q (ix2 (rowOf b s) (laneOf h j)) * K (ix2 (rowOf b t) (laneOf h j)))

/-- One element of one head: the values weighted by the exponentials, over the sum of the exponentials. -/
def headAt (Q K : Vec Ideal S512x2048 .bf16) (V : Vec Ideal S512x1024 .bf16) (h : Fin 16) (b : Fin 2) (d : Fin 64) (s : Fin 256) : EReal :=
  Ideal.div (∑ t : Fin 256, V (ix2 (rowOf b t) (featOf h d)) * expAt Q K h b s t) (∑ t : Fin 256, expAt Q K h b s t)

/-- A head's lanes lie within the array of queries or keys. -/
theorem lanes_in : ∀ h : Fin 16, S2x256x2048.Slices ![0, 0, h.val * 128] S2x256x128 := by decide
/-- A head's features lie within the array of values. -/
theorem feats_in : ∀ h : Fin 16, S2x256x1024.Slices ![0, 0, h.val * 64] S2x256x64 := by decide
/-- A batch lies within a head's result. -/
theorem batch_in : ∀ b : Fin 2, S2x64x256.Slices ![b.val, 0, 0] S1x64x256 := by decide

/-- What the kernel stores for head `h` and batch `b`, in the kernel's operations, the offsets left free. -/
def headPiece {F : FTy → Type} [FloatOps F] (h : Fin 16) (b : Fin 2) (Q K : Vec F S512x2048 .bf16) (V : Vec F S512x1024 .bf16) : FVec F S64x256 .bf16 :=
  have q : FVec F S2x256x128 .bf16 := extractStridedSlice S2x256x128 ![0, 0, h.val * 128] (shapeCast S2x256x2048 Q shapeCasts_S512x2048_S2x256x2048) (lanes_in h)
  have k : FVec F S2x256x128 .bf16 := extractStridedSlice S2x256x128 ![0, 0, h.val * 128] (shapeCast S2x256x2048 K shapeCasts_S512x2048_S2x256x2048) (lanes_in h)
  have e : FVec F S2x256x256 .f32 := exp (matmul dot_S2x256x128_S2x256x128_S2x256x256_2_2_1_1_0_0 none q k (constant S2x256x256 .f32 0x00000000#32))
  have v : FVec F S2x256x64 .bf16 := extractStridedSlice S2x256x64 ![0, 0, h.val * 64] (shapeCast S2x256x1024 V shapeCasts_S512x1024_S2x256x1024) (feats_in h)
  have o : FVec F S2x64x256 .f32 := matmul dot_S2x256x64_S2x256x256_S2x64x256_1_2_2_1_0_0 none v (truncf .bf16 e bitsLt_bf16_f32) (constant S2x64x256 .f32 0x00000000#32)
  have l : FVec F S2x256 .f32 := multiReduction .add [2] S2x256 e 0x00000000#32 reduces_S2x256x256_S2x256 (.inl rfl) rfl
  have w : FVec F S2x64x256 .bf16 := truncf .bf16 (divf o (broadcastTo S2x64x256 (shapeCast S2x1x256 l shapeCasts_S2x256_S2x1x256) broadcasts_S2x1x256_S2x64x256)) bitsLt_bf16_f32
  shapeCast S64x256 (shapeCast S64x256 (extractStridedSlice S1x64x256 ![b.val, 0, 0] w (batch_in b)) shapeCasts_S1x64x256_S64x256) shapeCasts_S64x256_S64x256

/-- A stored piece read at an index. -/
theorem headPiece_apply (h : Fin 16) (b : Fin 2) (Q K : Vec Ideal S512x2048 .bf16) (V : Vec Ideal S512x1024 .bf16) (d : Fin 64) (s : Fin 256) :
    headPiece h b Q K V (ix2 d s) = headAt Q K V h b d s := by
  unfold headAt expAt rowOf laneOf featOf
  pointwise [headPiece]

/-- The transposed attention: feature `d` of head `h` down, row `s` of batch `b` across. -/
def attnT (Q K : Vec Ideal S512x2048 .bf16) (V : Vec Ideal S512x1024 .bf16) (y : S1024x512.Idx) : EReal :=
  headAt Q K V ⟨(y 0).val / 64, by have : (y 0).val < 1024 := (y 0).isLt; omega⟩ ⟨(y 1).val / 256, by have : (y 1).val < 512 := (y 1).isLt; omega⟩
    ⟨(y 0).val % 64, by omega⟩ ⟨(y 1).val % 256, by omega⟩

/-- A stored piece is the part of the transposed attention it is stored to. -/
theorem headPiece_part (h : Fin 16) (b : Fin 2)
    (inb : ∀ a, (![h.val * 64, b.val * 256] : Fin 2 → ℕ) a + S64x256.size a ≤ S1024x512.size a)
    (Q K : Vec Ideal S512x2048 .bf16) (V : Vec Ideal S512x1024 .bf16) (w : S64x256.Idx → EReal) (hw : w = headPiece h b Q K V) (x : S64x256.Idx) :
    w x = attnT Q K V ((Rect.unit (s := S1024x512) ![h.val * 64, b.val * 256] S64x256.size inb).emb x) := by
  obtain ⟨d, s, rfl⟩ : ∃ (d : Fin 64) (s : Fin 256), x = ix2 d s := ⟨x 0, x 1, eq_ix2 x⟩
  subst hw
  rw [headPiece_apply]
  have e0 : (((Rect.unit (s := S1024x512) ![h.val * 64, b.val * 256] S64x256.size inb).emb (ix2 d s)) 0).val = h.val * 64 + d.val := by
    show h.val * 64 + 1 * d.val = _; omega
  have e1 : (((Rect.unit (s := S1024x512) ![h.val * 64, b.val * 256] S64x256.size inb).emb (ix2 d s)) 1).val = b.val * 256 + s.val := by
    show b.val * 256 + 1 * s.val = _; omega
  unfold attnT
  congr 1 <;> apply Fin.ext <;> simp only [e0, e1] <;> omega

/-- The stores of the heads fill their array. -/
theorem heads_cover (m : (ℓ : Loc nD τ sig) → Buf (Elt Ideal) ℓ) (c : Dev nD) (y : S1024x512.Idx) :
    ∃ p ∈ bodyRun.sl.Hs8_32 m c, y ∈ p.1.set :=
  View.cover_of_tiled (bodyRun.sl.Hs8_32 m c) ![64, 256] (by sl_kernel_rfl) y

/-- Every store of a head is its part of the transposed attention. -/
theorem heads_part (m : (ℓ : Loc nD τ sig) → Buf (Elt Ideal) ℓ) (c : Dev nD) :
    ∀ p ∈ bodyRun.sl.Hs8_32 m c, ∀ x : p.1.shape.Idx,
      p.2 x = attnT (bodyRun.sl.v466 m c) (bodyRun.sl.v468 m c) (bodyRun.sl.r_4 m c) (p.1.emb x) := by
  unfold bodyRun.sl.Hs8_32
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact fun x => headPiece_part 15 1 _ _ _ _ _ (by sl_kernel_rfl) x
  · exact fun x => headPiece_part 15 0 _ _ _ _ _ (by sl_kernel_rfl) x
  · exact fun x => headPiece_part 14 1 _ _ _ _ _ (by sl_kernel_rfl) x
  · exact fun x => headPiece_part 14 0 _ _ _ _ _ (by sl_kernel_rfl) x
  · exact fun x => headPiece_part 13 1 _ _ _ _ _ (by sl_kernel_rfl) x
  · exact fun x => headPiece_part 13 0 _ _ _ _ _ (by sl_kernel_rfl) x
  · exact fun x => headPiece_part 12 1 _ _ _ _ _ (by sl_kernel_rfl) x
  · exact fun x => headPiece_part 12 0 _ _ _ _ _ (by sl_kernel_rfl) x
  · exact fun x => headPiece_part 11 1 _ _ _ _ _ (by sl_kernel_rfl) x
  · exact fun x => headPiece_part 11 0 _ _ _ _ _ (by sl_kernel_rfl) x
  · exact fun x => headPiece_part 10 1 _ _ _ _ _ (by sl_kernel_rfl) x
  · exact fun x => headPiece_part 10 0 _ _ _ _ _ (by sl_kernel_rfl) x
  · exact fun x => headPiece_part 9 1 _ _ _ _ _ (by sl_kernel_rfl) x
  · exact fun x => headPiece_part 9 0 _ _ _ _ _ (by sl_kernel_rfl) x
  · exact fun x => headPiece_part 8 1 _ _ _ _ _ (by sl_kernel_rfl) x
  · exact fun x => headPiece_part 8 0 _ _ _ _ _ (by sl_kernel_rfl) x
  · exact fun x => headPiece_part 7 1 _ _ _ _ _ (by sl_kernel_rfl) x
  · exact fun x => headPiece_part 7 0 _ _ _ _ _ (by sl_kernel_rfl) x
  · exact fun x => headPiece_part 6 1 _ _ _ _ _ (by sl_kernel_rfl) x
  · exact fun x => headPiece_part 6 0 _ _ _ _ _ (by sl_kernel_rfl) x
  · exact fun x => headPiece_part 5 1 _ _ _ _ _ (by sl_kernel_rfl) x
  · exact fun x => headPiece_part 5 0 _ _ _ _ _ (by sl_kernel_rfl) x
  · exact fun x => headPiece_part 4 1 _ _ _ _ _ (by sl_kernel_rfl) x
  · exact fun x => headPiece_part 4 0 _ _ _ _ _ (by sl_kernel_rfl) x
  · exact fun x => headPiece_part 3 1 _ _ _ _ _ (by sl_kernel_rfl) x
  · exact fun x => headPiece_part 3 0 _ _ _ _ _ (by sl_kernel_rfl) x
  · exact fun x => headPiece_part 2 1 _ _ _ _ _ (by sl_kernel_rfl) x
  · exact fun x => headPiece_part 2 0 _ _ _ _ _ (by sl_kernel_rfl) x
  · exact fun x => headPiece_part 1 1 _ _ _ _ _ (by sl_kernel_rfl) x
  · exact fun x => headPiece_part 1 0 _ _ _ _ _ (by sl_kernel_rfl) x
  · exact fun x => headPiece_part 0 1 _ _ _ _ _ (by sl_kernel_rfl) x
  · exact fun x => headPiece_part 0 0 _ _ _ _ _ (by sl_kernel_rfl) x

/-- A load from the start of an array reads it in place. -/
theorem idx_start {s : Shape} {off size : Fin s.rank → ℕ} (inb : ∀ a, off a + size a ≤ s.size a) (h : ∀ a, off a = 0)
    (y : (Rect.unit off size inb).toLoadRect.shape.Idx) (a : Fin s.rank) : ((Rect.unit off size inb).toLoadRect.idx y a).val = (y a).val := by
  show off a + 1 * (y a).val = _
  rw [h a]; omega

/-- What the scratch array of the heads holds once all heads are stored. -/
theorem heads_read (m : (ℓ : Loc nD τ sig) → Buf (Elt Ideal) ℓ) (c : Dev nD) :
    bodyRun.sl.v823 m c = attnT (bodyRun.sl.v466 m c) (bodyRun.sl.v468 m c) (bodyRun.sl.r_4 m c) := by
  funext y
  refine (View.read_writes_apply_of_pieces (Memref.whole cc0_scratch8).view _ (attnT (bodyRun.sl.v466 m c) (bodyRun.sl.v468 m c) (bodyRun.sl.r_4 m c))
    (bodyRun.sl.Hs8_32 m c) (heads_part m c) _ (heads_cover m c _)).trans ?_
  exact congrArg _ (funext fun a => Fin.ext (idx_start _ (by decide) y a))

end Cert.Latent
-- ==== Proof.Lanes.lean ====
/-
# The wide arrays of queries and keys

Each head takes 128 lanes: 64 of its own features, 32 rotary features, and 32 more. The kernel stores them piece by piece.
Here the two arrays are read back as one function of the row and the lane.
-/
module

public import proofs.«01_k».proof.Proof.Heads

@[expose] public section

set_option maxRecDepth 16384

noncomputable section

namespace Cert.Latent

open Cert.KernelIdeal Cert.KernelIdeal.Gen
open Idealize.ShloMosaic

/-- Whether the pieces fill an array of 512 rows and 2048 lanes, told 32 lanes at a time. -/
def lanesFill {Val : EltTy → Type} {e : EltTy} (L : List (View.Piece Val S512x2048 e)) : Bool :=
  decide (∀ k : Fin 64, ∃ p ∈ L, p.1.off 0 = 0 ∧ p.1.size 0 = 512 ∧ p.1.stride 0 = 1 ∧ p.1.stride 1 = 1
    ∧ p.1.off 1 ≤ k.val * 32 ∧ k.val * 32 + 32 ≤ p.1.off 1 + p.1.size 1)

/-- Pieces that fill the array hold every place of it. -/
theorem lanesFill_cover {Val : EltTy → Type} {e : EltTy} (L : List (View.Piece Val S512x2048 e)) (h : lanesFill L = true)
    (y : S512x2048.Idx) : ∃ p ∈ L, y ∈ p.1.set := by
  have y1 : (y 1).val < 2048 := (y 1).isLt
  have y0 : (y 0).val < 512 := (y 0).isLt
  obtain ⟨p, hp, o0, s0, t0, t1, l1, u1⟩ := of_decide_eq_true h ⟨(y 1).val / 32, by omega⟩
  refine ⟨p, hp, p.1.mem_set.mpr fun a => ?_⟩
  match a with
  | ⟨0, _⟩ => exact ⟨(y 0).val, by show _ < p.1.size 0; omega, by show (y 0).val = p.1.off 0 + p.1.stride 0 * (y 0).val; rw [o0, t0]; omega⟩
  | ⟨1, _⟩ =>
    dsimp only at l1 u1
    refine ⟨(y 1).val - p.1.off 1, ?_, ?_⟩
    · show _ < p.1.size 1; omega
    · show (y 1).val = p.1.off 1 + p.1.stride 1 * ((y 1).val - p.1.off 1); rw [t1]; omega

/-- A load of stored pieces that all agree with one function reads that function. -/
theorem readCov_pieces {sig : RefSig} {κ : Kind} {sp : Space} {s : Shape} {e : EltTy} (v : View sig κ sp s e) (G : s.Idx → Elt Ideal e)
    (L : List (View.Piece (Elt Ideal) s e)) (B : LoadRect s) (hp : ∀ p ∈ L, ∀ x : p.1.shape.Idx, p.2 x = G (p.1.emb x))
    (hc : ∀ y, ∃ p ∈ L, y ∈ p.1.set) (x : B.shape.Idx) : v.readCov L B x = G (B.idx x) :=
  View.read_writes_apply_of_pieces v _ G L hp _ (hc _)

/-- Lane `y` of an array with 128 lanes a head: the first 64 from `A`, the next 32 from `B`, the last 32 from `C`. -/
def lanesAt (A B C : Fin 512 → Fin 16 → ℕ → EReal) (y : S512x2048.Idx) : EReal :=
  let h : Fin 16 := ⟨(y 1).val / 128, by have : (y 1).val < 2048 := (y 1).isLt; omega⟩
  let j := (y 1).val % 128
  if j < 64 then A (y 0) h j else if j < 96 then B (y 0) h (j - 64) else C (y 0) h (j - 96)

/-- A piece of 64 lanes stored to the start of a head. -/
theorem part_first (A B C : Fin 512 → Fin 16 → ℕ → EReal) (h : Fin 16) (inb : ∀ a, (![0, h.val * 128] : Fin 2 → ℕ) a + S512x64.size a ≤ S512x2048.size a)
    (w : S512x64.Idx → EReal) (hw : ∀ (r : Fin 512) (d : Fin 64), w (ix2 r d) = A r h d.val) (x : S512x64.Idx) :
    w x = lanesAt A B C ((Rect.unit (s := S512x2048) ![0, h.val * 128] S512x64.size inb).emb x) := by
  obtain ⟨r, d, rfl⟩ : ∃ (r : Fin 512) (d : Fin 64), x = ix2 r d := ⟨x 0, x 1, eq_ix2 x⟩
  rw [hw]
  have e0 : ((Rect.unit (s := S512x2048) ![0, h.val * 128] S512x64.size inb).emb (ix2 r d)) 0 = r := Fin.ext (by show 0 + 1 * r.val = _; omega)
  have e1 : (((Rect.unit (s := S512x2048) ![0, h.val * 128] S512x64.size inb).emb (ix2 r d)) 1).val = h.val * 128 + d.val := by
    show h.val * 128 + 1 * d.val = _; omega
  unfold lanesAt
  simp only [e0, e1]
  rw [if_pos (by omega)]
  congr 1
  · congr 1; apply Fin.ext; show h.val = (h.val * 128 + d.val) / 128; omega
  · omega

/-- A piece of 32 lanes stored 64 lanes into a head. -/
theorem part_second (A B C : Fin 512 → Fin 16 → ℕ → EReal) (h : Fin 16) (inb : ∀ a, (![0, h.val * 128 + 64] : Fin 2 → ℕ) a + S512x32.size a ≤ S512x2048.size a)
    (w : S512x32.Idx → EReal) (hw : ∀ (r : Fin 512) (d : Fin 32), w (ix2 r d) = B r h d.val) (x : S512x32.Idx) :
    w x = lanesAt A B C ((Rect.unit (s := S512x2048) ![0, h.val * 128 + 64] S512x32.size inb).emb x) := by
  obtain ⟨r, d, rfl⟩ : ∃ (r : Fin 512) (d : Fin 32), x = ix2 r d := ⟨x 0, x 1, eq_ix2 x⟩
  rw [hw]
  have e0 : ((Rect.unit (s := S512x2048) ![0, h.val * 128 + 64] S512x32.size inb).emb (ix2 r d)) 0 = r := Fin.ext (by show 0 + 1 * r.val = _; omega)
  have e1 : (((Rect.unit (s := S512x2048) ![0, h.val * 128 + 64] S512x32.size inb).emb (ix2 r d)) 1).val = h.val * 128 + 64 + d.val := by
    show h.val * 128 + 64 + 1 * d.val = _; omega
  unfold lanesAt
  simp only [e0, e1]
  rw [if_neg (by omega), if_pos (by omega)]
  congr 1
  · congr 1; apply Fin.ext; show h.val = (h.val * 128 + 64 + d.val) / 128; omega
  · omega

/-- A piece of 32 lanes stored 96 lanes into a head. -/
theorem part_third (A B C : Fin 512 → Fin 16 → ℕ → EReal) (h : Fin 16) (inb : ∀ a, (![0, h.val * 128 + 96] : Fin 2 → ℕ) a + S512x32.size a ≤ S512x2048.size a)
    (w : S512x32.Idx → EReal) (hw : ∀ (r : Fin 512) (d : Fin 32), w (ix2 r d) = C r h d.val) (x : S512x32.Idx) :
    w x = lanesAt A B C ((Rect.unit (s := S512x2048) ![0, h.val * 128 + 96] S512x32.size inb).emb x) := by
  obtain ⟨r, d, rfl⟩ : ∃ (r : Fin 512) (d : Fin 32), x = ix2 r d := ⟨x 0, x 1, eq_ix2 x⟩
  rw [hw]
  have e0 : ((Rect.unit (s := S512x2048) ![0, h.val * 128 + 96] S512x32.size inb).emb (ix2 r d)) 0 = r := Fin.ext (by show 0 + 1 * r.val = _; omega)
  have e1 : (((Rect.unit (s := S512x2048) ![0, h.val * 128 + 96] S512x32.size inb).emb (ix2 r d)) 1).val = h.val * 128 + 96 + d.val := by
    show h.val * 128 + 96 + 1 * d.val = _; omega
  unfold lanesAt
  simp only [e0, e1]
  rw [if_neg (by omega), if_neg (by omega)]
  congr 1
  · congr 1; apply Fin.ext; show h.val = (h.val * 128 + 96 + d.val) / 128; omega
  · omega

/-- A head's 64 features lie within 1024. -/
theorem sixtyfour_in : ∀ h : Fin 16, S512x1024.Slices ![0, h.val * 64] S512x64 := by decide
/-- A head's 32 rotary features lie within 512. -/
theorem thirtytwo_in : ∀ h : Fin 16, S512x512.Slices ![0, h.val * 32] S512x32 := by decide

/-- The part of an array of 1024 columns that head `h` owns, as the kernel stores it. -/
def cut64 (h : Fin 16) (A : FVec Ideal S512x1024 .bf16) : FVec Ideal S512x64 .bf16 :=
  shapeCast S512x64 (extractStridedSlice S512x64 ![0, h.val * 64] A (sixtyfour_in h)) shapeCasts_S512x64_S512x64

/-- The part of an array of 512 columns that head `h` owns, as the kernel stores it. -/
def cut32 (h : Fin 16) (A : FVec Ideal S512x512 .bf16) : FVec Ideal S512x32 .bf16 :=
  shapeCast S512x32 (extractStridedSlice S512x32 ![0, h.val * 32] A (thirtytwo_in h)) shapeCasts_S512x32_S512x32

/-- An array of 1024 columns by head and feature. -/
def feat64 (A : FVec Ideal S512x1024 .bf16) (r : Fin 512) (h : Fin 16) (j : ℕ) : EReal :=
  if hj : j < 64 then A (ix2 r ⟨h.val * 64 + j, by omega⟩) else 0
/-- An array of 512 columns by head and feature. -/
def feat32 (A : FVec Ideal S512x512 .bf16) (r : Fin 512) (h : Fin 16) (j : ℕ) : EReal :=
  if hj : j < 32 then A (ix2 r ⟨h.val * 32 + j, by omega⟩) else 0
/-- An array of 32 columns, the same for every head. -/
def feat0 (A : FVec Ideal S512x32 .bf16) (r : Fin 512) (h : Fin 16) (j : ℕ) : EReal :=
  if hj : j < 32 then A (ix2 r ⟨j, hj⟩) else 0

/-- A cut of 64 columns, read at an index. -/
theorem cut64_apply (h : Fin 16) (A w) (hw : w = cut64 h A) (r : Fin 512) (d : Fin 64) : w (ix2 r d) = feat64 A r h d.val := by
  subst hw
  unfold feat64
  rw [dif_pos d.isLt]
  pointwise [cut64]

/-- A cut of 32 columns, read at an index. -/
theorem cut32_apply (h : Fin 16) (A w) (hw : w = cut32 h A) (r : Fin 512) (d : Fin 32) : w (ix2 r d) = feat32 A r h d.val := by
  subst hw
  unfold feat32
  rw [dif_pos d.isLt]
  pointwise [cut32]

/-- The 32 columns that every head takes, read at an index. -/
theorem same32_apply (h : Fin 16) (A w) (hw : w = (shapeCast S512x32 A shapeCasts_S512x32_S512x32 : FVec Ideal S512x32 .bf16)) (r : Fin 512) (d : Fin 32) :
    w (ix2 r d) = feat0 A r h d.val := by
  subst hw
  unfold feat0
  rw [dif_pos d.isLt]
  pointwise

/-- What the array of queries holds. -/
theorem queries_read (m : (ℓ : Loc nD τ sig) → Buf (Elt Ideal) ℓ) (c : Dev nD) :
    bodyRun.sl.v466 m c = lanesAt (feat64 (bodyRun.sl.r m c)) (feat32 (bodyRun.sl.r_1 m c)) (feat0 k0_pay13) := by
  funext y
  unfold bodyRun.sl.v466
  refine (readCov_pieces _ (lanesAt (feat64 (bodyRun.sl.r m c)) (feat32 (bodyRun.sl.r_1 m c)) (feat0 k0_pay13)) _ _ ?_ (lanesFill_cover _ (by sl_kernel_rfl)) y).trans
    (congrArg _ (funext fun a => Fin.ext (idx_start _ (by decide) y a)))
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact part_third _ _ _ 15 _ _ (same32_apply 15 _ _ (by sl_kernel_rfl))
  · exact part_second _ _ _ 15 _ _ (cut32_apply 15 _ _ (by sl_kernel_rfl))
  · exact part_first _ _ _ 15 _ _ (cut64_apply 15 _ _ (by sl_kernel_rfl))
  · exact part_third _ _ _ 14 _ _ (same32_apply 14 _ _ (by sl_kernel_rfl))
  · exact part_second _ _ _ 14 _ _ (cut32_apply 14 _ _ (by sl_kernel_rfl))
  · exact part_first _ _ _ 14 _ _ (cut64_apply 14 _ _ (by sl_kernel_rfl))
  · exact part_third _ _ _ 13 _ _ (same32_apply 13 _ _ (by sl_kernel_rfl))
  · exact part_second _ _ _ 13 _ _ (cut32_apply 13 _ _ (by sl_kernel_rfl))
  · exact part_first _ _ _ 13 _ _ (cut64_apply 13 _ _ (by sl_kernel_rfl))
  · exact part_third _ _ _ 12 _ _ (same32_apply 12 _ _ (by sl_kernel_rfl))
  · exact part_second _ _ _ 12 _ _ (cut32_apply 12 _ _ (by sl_kernel_rfl))
  · exact part_first _ _ _ 12 _ _ (cut64_apply 12 _ _ (by sl_kernel_rfl))
  · exact part_third _ _ _ 11 _ _ (same32_apply 11 _ _ (by sl_kernel_rfl))
  · exact part_second _ _ _ 11 _ _ (cut32_apply 11 _ _ (by sl_kernel_rfl))
  · exact part_first _ _ _ 11 _ _ (cut64_apply 11 _ _ (by sl_kernel_rfl))
  · exact part_third _ _ _ 10 _ _ (same32_apply 10 _ _ (by sl_kernel_rfl))
  · exact part_second _ _ _ 10 _ _ (cut32_apply 10 _ _ (by sl_kernel_rfl))
  · exact part_first _ _ _ 10 _ _ (cut64_apply 10 _ _ (by sl_kernel_rfl))
  · exact part_third _ _ _ 9 _ _ (same32_apply 9 _ _ (by sl_kernel_rfl))
  · exact part_second _ _ _ 9 _ _ (cut32_apply 9 _ _ (by sl_kernel_rfl))
  · exact part_first _ _ _ 9 _ _ (cut64_apply 9 _ _ (by sl_kernel_rfl))
  · exact part_third _ _ _ 8 _ _ (same32_apply 8 _ _ (by sl_kernel_rfl))
  · exact part_second _ _ _ 8 _ _ (cut32_apply 8 _ _ (by sl_kernel_rfl))
  · exact part_first _ _ _ 8 _ _ (cut64_apply 8 _ _ (by sl_kernel_rfl))
  · exact part_third _ _ _ 7 _ _ (same32_apply 7 _ _ (by sl_kernel_rfl))
  · exact part_second _ _ _ 7 _ _ (cut32_apply 7 _ _ (by sl_kernel_rfl))
  · exact part_first _ _ _ 7 _ _ (cut64_apply 7 _ _ (by sl_kernel_rfl))
  · exact part_third _ _ _ 6 _ _ (same32_apply 6 _ _ (by sl_kernel_rfl))
  · exact part_second _ _ _ 6 _ _ (cut32_apply 6 _ _ (by sl_kernel_rfl))
  · exact part_first _ _ _ 6 _ _ (cut64_apply 6 _ _ (by sl_kernel_rfl))
  · exact part_third _ _ _ 5 _ _ (same32_apply 5 _ _ (by sl_kernel_rfl))
  · exact part_second _ _ _ 5 _ _ (cut32_apply 5 _ _ (by sl_kernel_rfl))
  · exact part_first _ _ _ 5 _ _ (cut64_apply 5 _ _ (by sl_kernel_rfl))
  · exact part_third _ _ _ 4 _ _ (same32_apply 4 _ _ (by sl_kernel_rfl))
  · exact part_second _ _ _ 4 _ _ (cut32_apply 4 _ _ (by sl_kernel_rfl))
  · exact part_first _ _ _ 4 _ _ (cut64_apply 4 _ _ (by sl_kernel_rfl))
  · exact part_third _ _ _ 3 _ _ (same32_apply 3 _ _ (by sl_kernel_rfl))
  · exact part_second _ _ _ 3 _ _ (cut32_apply 3 _ _ (by sl_kernel_rfl))
  · exact part_first _ _ _ 3 _ _ (cut64_apply 3 _ _ (by sl_kernel_rfl))
  · exact part_third _ _ _ 2 _ _ (same32_apply 2 _ _ (by sl_kernel_rfl))
  · exact part_second _ _ _ 2 _ _ (cut32_apply 2 _ _ (by sl_kernel_rfl))
  · exact part_first _ _ _ 2 _ _ (cut64_apply 2 _ _ (by sl_kernel_rfl))
  · exact part_third _ _ _ 1 _ _ (same32_apply 1 _ _ (by sl_kernel_rfl))
  · exact part_second _ _ _ 1 _ _ (cut32_apply 1 _ _ (by sl_kernel_rfl))
  · exact part_first _ _ _ 1 _ _ (cut64_apply 1 _ _ (by sl_kernel_rfl))
  · exact part_third _ _ _ 0 _ _ (same32_apply 0 _ _ (by sl_kernel_rfl))
  · exact part_second _ _ _ 0 _ _ (cut32_apply 0 _ _ (by sl_kernel_rfl))
  · exact part_first _ _ _ 0 _ _ (cut64_apply 0 _ _ (by sl_kernel_rfl))

/-- The rotary keys: the rows times their weights. -/
def rotKeys (m : (ℓ : Loc nD τ sig) → Buf (Elt Ideal) ℓ) (c : Dev nD) : FVec Ideal S512x32 .bf16 :=
  k0_pay9
    (k0_pay3 (View.readAt (Elt Ideal) (Memref.whole cc0_stg0_0).view
      (Rect.unit (s := S2x256x1024) ![0, 0, 0] ![2, 256, 1024] inb_S2x256x1024_S2x256x1024_0_0_0).toLoadRect (xIn m c)))
    (View.readAt (Elt Ideal) (Memref.whole cc0_stg6_0).view (Rect.unit (s := S1024x32) ![0, 0] ![1024, 32] inb_S1024x32_S1024x32_0_0).toLoadRect (krIn m c))

/-- What the array of keys holds. -/
theorem keys_read (m : (ℓ : Loc nD τ sig) → Buf (Elt Ideal) ℓ) (c : Dev nD) :
    bodyRun.sl.v468 m c = lanesAt (feat64 (bodyRun.sl.r_3 m c)) (feat0 (rotKeys m c)) (feat0 (rotKeys m c)) := by
  funext y
  unfold bodyRun.sl.v468 bodyRun.sl.Hs7_48
  refine (readCov_pieces _ (lanesAt (feat64 (bodyRun.sl.r_3 m c)) (feat0 (rotKeys m c)) (feat0 (rotKeys m c))) _ _ ?_ (lanesFill_cover _ (by sl_kernel_rfl)) y).trans
    (congrArg _ (funext fun a => Fin.ext (idx_start _ (by decide) y a)))
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact part_first _ _ _ 15 _ _ (cut64_apply 15 _ _ (by sl_kernel_rfl))
  · exact part_first _ _ _ 14 _ _ (cut64_apply 14 _ _ (by sl_kernel_rfl))
  · exact part_first _ _ _ 13 _ _ (cut64_apply 13 _ _ (by sl_kernel_rfl))
  · exact part_first _ _ _ 12 _ _ (cut64_apply 12 _ _ (by sl_kernel_rfl))
  · exact part_first _ _ _ 11 _ _ (cut64_apply 11 _ _ (by sl_kernel_rfl))
  · exact part_first _ _ _ 10 _ _ (cut64_apply 10 _ _ (by sl_kernel_rfl))
  · exact part_first _ _ _ 9 _ _ (cut64_apply 9 _ _ (by sl_kernel_rfl))
  · exact part_first _ _ _ 8 _ _ (cut64_apply 8 _ _ (by sl_kernel_rfl))
  · exact part_first _ _ _ 7 _ _ (cut64_apply 7 _ _ (by sl_kernel_rfl))
  · exact part_first _ _ _ 6 _ _ (cut64_apply 6 _ _ (by sl_kernel_rfl))
  · exact part_first _ _ _ 5 _ _ (cut64_apply 5 _ _ (by sl_kernel_rfl))
  · exact part_first _ _ _ 4 _ _ (cut64_apply 4 _ _ (by sl_kernel_rfl))
  · exact part_first _ _ _ 3 _ _ (cut64_apply 3 _ _ (by sl_kernel_rfl))
  · exact part_first _ _ _ 2 _ _ (cut64_apply 2 _ _ (by sl_kernel_rfl))
  · exact part_first _ _ _ 1 _ _ (cut64_apply 1 _ _ (by sl_kernel_rfl))
  · exact part_first _ _ _ 0 _ _ (cut64_apply 0 _ _ (by sl_kernel_rfl))
  · exact part_third _ _ _ 15 _ _ (same32_apply 15 _ _ (by sl_kernel_rfl))
  · exact part_second _ _ _ 15 _ _ (same32_apply 15 _ _ (by sl_kernel_rfl))
  · exact part_third _ _ _ 14 _ _ (same32_apply 14 _ _ (by sl_kernel_rfl))
  · exact part_second _ _ _ 14 _ _ (same32_apply 14 _ _ (by sl_kernel_rfl))
  · exact part_third _ _ _ 13 _ _ (same32_apply 13 _ _ (by sl_kernel_rfl))
  · exact part_second _ _ _ 13 _ _ (same32_apply 13 _ _ (by sl_kernel_rfl))
  · exact part_third _ _ _ 12 _ _ (same32_apply 12 _ _ (by sl_kernel_rfl))
  · exact part_second _ _ _ 12 _ _ (same32_apply 12 _ _ (by sl_kernel_rfl))
  · exact part_third _ _ _ 11 _ _ (same32_apply 11 _ _ (by sl_kernel_rfl))
  · exact part_second _ _ _ 11 _ _ (same32_apply 11 _ _ (by sl_kernel_rfl))
  · exact part_third _ _ _ 10 _ _ (same32_apply 10 _ _ (by sl_kernel_rfl))
  · exact part_second _ _ _ 10 _ _ (same32_apply 10 _ _ (by sl_kernel_rfl))
  · exact part_third _ _ _ 9 _ _ (same32_apply 9 _ _ (by sl_kernel_rfl))
  · exact part_second _ _ _ 9 _ _ (same32_apply 9 _ _ (by sl_kernel_rfl))
  · exact part_third _ _ _ 8 _ _ (same32_apply 8 _ _ (by sl_kernel_rfl))
  · exact part_second _ _ _ 8 _ _ (same32_apply 8 _ _ (by sl_kernel_rfl))
  · exact part_third _ _ _ 7 _ _ (same32_apply 7 _ _ (by sl_kernel_rfl))
  · exact part_second _ _ _ 7 _ _ (same32_apply 7 _ _ (by sl_kernel_rfl))
  · exact part_third _ _ _ 6 _ _ (same32_apply 6 _ _ (by sl_kernel_rfl))
  · exact part_second _ _ _ 6 _ _ (same32_apply 6 _ _ (by sl_kernel_rfl))
  · exact part_third _ _ _ 5 _ _ (same32_apply 5 _ _ (by sl_kernel_rfl))
  · exact part_second _ _ _ 5 _ _ (same32_apply 5 _ _ (by sl_kernel_rfl))
  · exact part_third _ _ _ 4 _ _ (same32_apply 4 _ _ (by sl_kernel_rfl))
  · exact part_second _ _ _ 4 _ _ (same32_apply 4 _ _ (by sl_kernel_rfl))
  · exact part_third _ _ _ 3 _ _ (same32_apply 3 _ _ (by sl_kernel_rfl))
  · exact part_second _ _ _ 3 _ _ (same32_apply 3 _ _ (by sl_kernel_rfl))
  · exact part_third _ _ _ 2 _ _ (same32_apply 2 _ _ (by sl_kernel_rfl))
  · exact part_second _ _ _ 2 _ _ (same32_apply 2 _ _ (by sl_kernel_rfl))
  · exact part_third _ _ _ 1 _ _ (same32_apply 1 _ _ (by sl_kernel_rfl))
  · exact part_second _ _ _ 1 _ _ (same32_apply 1 _ _ (by sl_kernel_rfl))
  · exact part_third _ _ _ 0 _ _ (same32_apply 0 _ _ (by sl_kernel_rfl))
  · exact part_second _ _ _ 0 _ _ (same32_apply 0 _ _ (by sl_kernel_rfl))

end Cert.Latent
-- ==== Proof.Gathered.lean ====
/-
# What the exchange brings together

After the exchange a device holds its own half of the latent rows beside its mate's, and its own half of the weights above
its mate's. Keys and values are the products of the two, and so are sums over both halves.
-/
module

public import proofs.«01_k».proof.Proof.Lanes

@[expose] public section

set_option maxRecDepth 16384

noncomputable section

namespace Cert.Latent

open Cert.KernelIdeal Cert.KernelIdeal.Gen
open Idealize.ShloMosaic
open Idealize.ShloMosaic.TcCoe

variable (m : (ℓ : Loc nD τ sig) → Buf (Elt Ideal) ℓ) (c : Dev nD)

/-- The input rows of a device. -/
def xArr : Vec Ideal S2x256x1024 .bf16 := m ((c : Thread nD τ).loc main_arg0)
/-- A device's columns of the down-projection. -/
def dArr : Vec Ideal S1024x64 .bf16 := m ((c : Thread nD τ).loc main_arg1)
/-- A device's rows of the key weights. -/
def ukArr : Vec Ideal S64x1024 .bf16 := m ((c : Thread nD τ).loc main_arg2)
/-- A device's rows of the value weights. -/
def uvArr : Vec Ideal S64x1024 .bf16 := m ((c : Thread nD τ).loc main_arg3)
/-- The query weights. -/
def qArr : Vec Ideal S1024x1024 .bf16 := m ((c : Thread nD τ).loc main_arg4)
/-- The rotary query weights. -/
def qrArr : Vec Ideal S1024x512 .bf16 := m ((c : Thread nD τ).loc main_arg5)
/-- The rotary key weights. -/
def krArr : Vec Ideal S1024x32 .bf16 := m ((c : Thread nD τ).loc main_arg6)
/-- The output weights. -/
def oArr : Vec Ideal S1024x1024 .bf16 := m ((c : Thread nD τ).loc main_arg7)

/-- The staged block of the input rows is the whole array. -/
theorem xIn_eq : xIn m c = xArr m c := View.readAt_full (Memref.whole main_arg0).view _ _
/-- The staged block of the down-projection is the device's whole array. -/
theorem dIn_eq : dIn m c = dArr m c := View.readAt_full (Memref.whole main_arg1).view _ _
/-- The staged block of the key weights is the device's whole array. -/
theorem ukIn_eq : ukIn m c = ukArr m c := View.readAt_full (Memref.whole main_arg2).view _ _
/-- The staged block of the value weights is the device's whole array. -/
theorem uvIn_eq : uvIn m c = uvArr m c := View.readAt_full (Memref.whole main_arg3).view _ _
/-- The staged block of the query weights is the whole array. -/
theorem qIn_eq : qIn m c = qArr m c := View.readAt_full (Memref.whole main_arg4).view _ _
/-- The staged block of the rotary query weights is the whole array. -/
theorem qrIn_eq : qrIn m c = qrArr m c := View.readAt_full (Memref.whole main_arg5).view _ _
/-- The staged block of the rotary key weights is the whole array. -/
theorem krIn_eq : krIn m c = krArr m c := View.readAt_full (Memref.whole main_arg6).view _ _
/-- The staged block of the output weights is the whole array. -/
theorem oIn_eq : oIn m c = oArr m c := View.readAt_full (Memref.whole main_arg7).view _ _

/-- A staged block loaded whole. -/
theorem load_whole (b : Ref sig .tc) (f : b.ty.Contents (Elt Ideal)) {off : Fin b.ty.shape.rank → ℕ} (inb : ∀ a, off a + b.ty.shape.size a ≤ b.ty.shape.size a) :
    (Memref.whole b).view.readAt (Elt Ideal) (Rect.unit off b.ty.shape.size inb).toLoadRect f = f := View.readAt_full (Memref.whole b).view f inb

/-- The batch of a row. -/
def batchOf (r : Fin 512) : Fin 2 := ⟨r.val / 256, by omega⟩
/-- The place of a row in its batch. -/
def placeOf (r : Fin 512) : Fin 256 := ⟨r.val % 256, by omega⟩

/-- A device's own half of a latent row. -/
def latAt (r : Fin 512) (j : Fin 64) : EReal := ∑ k : Fin 1024, xArr m c (ix3 (batchOf r) (placeOf r) k) * dArr m c (ix2 k j)

/-- The rows of the input, as the kernel lays them out. -/
theorem rows_apply (X : Vec Ideal S2x256x1024 .bf16) (r : Fin 512) (k : Fin 1024) : k0_pay3 X (ix2 r k) = X (ix3 (batchOf r) (placeOf r) k) := by
  unfold batchOf placeOf
  pointwise [k0_pay3]

/-- The product of the input rows and a device's columns of the down-projection is its half of the latent rows. -/
theorem down_apply (r : Fin 512) (j : Fin 64) : k0_pay7 (k0_pay3 (xArr m c)) (dArr m c) (ix2 r j) = latAt m c r j := by
  unfold latAt
  simp only [← rows_apply]
  generalize k0_pay3 (xArr m c) = X
  generalize dArr m c = D
  pointwise [k0_pay7]

/-- What a device sends of its latent rows. -/
theorem cSent_apply (r : Fin 512) (j : Fin 64) : cSent m c (ix2 r j) = latAt m c r j := by
  rw [← down_apply]
  unfold cSent
  rw [xIn_eq, dIn_eq]
  unfold k0_pay8
  generalize k0_pay7 (k0_pay3 (xArr m c)) (dArr m c) = X
  pointwise

/-- The latent rows, a device's own half first, then its mate's. -/
def bothLat (y : S512x128.Idx) : EReal :=
  if h : (y 1).val < 64 then latAt m c (y 0) ⟨(y 1).val, h⟩
  else latAt m (mate c) (y 0) ⟨(y 1).val - 64, by have : (y 1).val < 128 := (y 1).isLt; omega⟩

/-- The scratch array of the latent rows. -/
theorem latents_read : bodyRun.sl.v393 m c = bothLat m c := by
  funext y
  unfold bodyRun.sl.v393 bodyRun.sl.Hs4_2
  refine (readCov_pieces _ (bothLat m c) _ _ ?_ (View.cover_of_tiled _ ![512, 64] (by sl_kernel_rfl)) y).trans
    (congrArg _ (funext fun a => Fin.ext (idx_start _ (by decide) y a)))
  simp only [List.forall_mem_cons]
  refine ⟨fun x => ?_, fun x => ?_, fun _ h => absurd h List.not_mem_nil⟩
  · obtain ⟨r, d, rfl⟩ : ∃ (r : Fin 512) (d : Fin 64), x = ix2 r d := ⟨x 0, x 1, eq_ix2 x⟩
    refine Eq.trans (?_ : _ = latAt m (mate c) r d) ?_
    · rw [View.readAt_full]
      show k0_pay100 (cSent m (mate c)) (ix2 r d) = _
      rw [← cSent_apply]
      generalize cSent m (mate c) = X
      pointwise [k0_pay100]
    · have e0 : ((Rect.unit (s := S512x128) ![0, 64] S512x64.size inb_S512x128_S512x64_0_64).emb (ix2 r d)) 0 = r := Fin.ext (by show 0 + 1 * r.val = _; omega)
      have e1 : (((Rect.unit (s := S512x128) ![0, 64] S512x64.size inb_S512x128_S512x64_0_64).emb (ix2 r d)) 1).val = 64 + d.val := by show 64 + 1 * d.val = _; omega
      unfold bothLat
      simp only [e0, e1]
      rw [dif_neg (by omega)]
      congr 1; apply Fin.ext; show d.val = 64 + d.val - 64; omega
  · obtain ⟨r, d, rfl⟩ : ∃ (r : Fin 512) (d : Fin 64), x = ix2 r d := ⟨x 0, x 1, eq_ix2 x⟩
    refine Eq.trans (?_ : _ = latAt m c r d) ?_
    · show bodyRun.sl.v348 m c (ix2 r d) = _
      rw [← down_apply]
      unfold bodyRun.sl.v348
      generalize hX : View.readAt (Elt Ideal) (Memref.whole cc0_stg0_0).view _ (xIn m c) = X
      obtain rfl : X = xArr m c := hX.symm.trans ((load_whole cc0_stg0_0 _ _).trans (xIn_eq m c))
      generalize hD : View.readAt (Elt Ideal) (Memref.whole cc0_stg1_0).view _ (dIn m c) = D
      obtain rfl : D = dArr m c := hD.symm.trans ((load_whole cc0_stg1_0 _ _).trans (dIn_eq m c))
      generalize k0_pay7 (k0_pay3 (xArr m c)) (dArr m c) = Y
      pointwise
    · have e0 : ((Rect.unit (s := S512x128) ![0, 0] S512x64.size inb_S512x128_S512x64_0_0).emb (ix2 r d)) 0 = r := Fin.ext (by show 0 + 1 * r.val = _; omega)
      have e1 : (((Rect.unit (s := S512x128) ![0, 0] S512x64.size inb_S512x128_S512x64_0_0).emb (ix2 r d)) 1).val = d.val := by show 0 + 1 * d.val = _; omega
      unfold bothLat
      simp only [e0, e1]
      rw [dif_pos d.isLt]

/-- A device's share of the key weights (`s = 0`) or of the value weights (`s = 1`). -/
def weightAt (s : Fin 2) (j : Fin 64) (f : Fin 1024) : EReal := if s = 0 then ukArr m c (ix2 j f) else uvArr m c (ix2 j f)

/-- A place inside the window just put. -/
theorem put_hit {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hy : ∀ a, off a ≤ (y a).val ∧ (y a).val < off a + size a := fun a => by have := h a; have := (z a).isLt; omega
  unfold VecWindow.put
  rw [dif_pos hy]
  congr 1
  funext a
  apply Fin.ext
  show (y a).val - off a = (z a).val
  have := h a; omega

/-- A place outside the window just put. -/
theorem put_miss {s : Shape} {α : Type} (x : s.Idx → α) (off size : Fin s.rank → ℕ) (w : ((a : Fin s.rank) → Fin (size a)) → α) (y : s.Idx)
    (a : Fin s.rank) (h : (y a).val < off a) : VecWindow.put x off size w y = x y := by
  unfold VecWindow.put
  rw [dif_neg fun hy => absurd (hy a).1 (by omega)]

/-- Three coordinates agree with a window's, each by itself. -/
theorem coords3 {a b d n₀ n₁ n₂ o₀ o₁ o₂ : ℕ} (x₀ : Fin a) (x₁ : Fin b) (x₂ : Fin d) (z₀ : Fin n₀) (z₁ : Fin n₁) (z₂ : Fin n₂)
    (h₀ : x₀.val = o₀ + z₀.val) (h₁ : x₁.val = o₁ + z₁.val) (h₂ : x₂.val = o₂ + z₂.val) (k : Fin 3) :
    ((ix3 x₀ x₁ x₂ : (⟨3, ![a, b, d]⟩ : Shape).Idx) k).val = (![o₀, o₁, o₂] : Fin 3 → ℕ) k + ((ix3 z₀ z₁ z₂ : (⟨3, ![n₀, n₁, n₂]⟩ : Shape).Idx) k).val := by
  match k with
  | ⟨0, _⟩ => exact h₀
  | ⟨1, _⟩ => exact h₁
  | ⟨2, _⟩ => exact h₂

/-- What a device sends of its weights. -/
theorem wSent_apply (s : Fin 2) (j : Fin 64) (f : Fin 1024) : wSent m c (ix3 s j f) = weightAt m c s j f := by
  unfold wSent weightAt
  rw [ukIn_eq, uvIn_eq]
  match s with
  | 0 =>
    rw [if_pos rfl, put_miss _ _ _ _ _ 0 (by show 0 < 1; omega),
      put_hit (s := S2x64x1024) _ ![0, 0, 0] S1x64x1024.size _ (ix3 0 j f) (ix3 (0 : Fin 1) j f) (coords3 _ _ _ _ _ _ rfl (Nat.zero_add _).symm (Nat.zero_add _).symm)]
    generalize ukArr m c = X
    pointwise [k0_pay4]
  | 1 =>
    rw [if_neg (by decide), put_hit (s := S2x64x1024) _ ![1, 0, 0] S1x64x1024.size _ (ix3 1 j f) (ix3 (0 : Fin 1) j f) (coords3 _ _ _ _ _ _ rfl (Nat.zero_add _).symm (Nat.zero_add _).symm)]
    generalize uvArr m c = X
    pointwise [k0_pay6, k0_pay5]

/-- Both devices' weights, a device's own rows first, then its mate's. -/
def bothWeights (y : S2x128x1024.Idx) : EReal :=
  if h : (y 1).val < 64 then weightAt m c (y 0) ⟨(y 1).val, h⟩ (y 2)
  else weightAt m (mate c) (y 0) ⟨(y 1).val - 64, by have : (y 1).val < 128 := (y 1).isLt; omega⟩ (y 2)

/-- A device's own weights within both devices' weights. -/
theorem own_weights (s : Fin 2) (j : Fin 64) (f : Fin 1024) (y : S2x128x1024.Idx) (h₀ : y 0 = s) (h₁ : (y 1).val = j.val) (h₂ : y 2 = f) :
    weightAt m c s j f = bothWeights m c y := by
  unfold bothWeights
  rw [dif_pos (by omega), h₀, h₂]
  congr 1; exact Fin.ext h₁.symm

/-- The mate's weights within both devices' weights. -/
theorem mate_weights (s : Fin 2) (j : Fin 64) (f : Fin 1024) (y : S2x128x1024.Idx) (h₀ : y 0 = s) (h₁ : (y 1).val = 64 + j.val) (h₂ : y 2 = f) :
    weightAt m (mate c) s j f = bothWeights m c y := by
  unfold bothWeights
  rw [dif_neg (by omega), h₀, h₂]
  congr 1; apply Fin.ext; show j.val = (y 1).val - 64; omega

/-- A load of one share of the weights that came over. -/
theorem sent_load (s : Fin 2) (n : Dev nD) (inb : ∀ a, (![s.val, 0, 0] : Fin 3 → ℕ) a + S1x64x1024.size a ≤ S2x64x1024.size a) (u : Fin 1) (j : Fin 64) (f : Fin 1024) :
    wDst.view.readAt (Elt Ideal) (Rect.unit (s := S2x64x1024) ![s.val, 0, 0] S1x64x1024.size inb).toLoadRect (wSent m n) (ix3 u j f) = weightAt m n s j f := by
  rw [← wSent_apply]
  refine congrArg (wSent m n) (funext fun a => Fin.ext ?_)
  match a with
  | ⟨0, _⟩ => show s.val + 1 * u.val = s.val; omega
  | ⟨1, _⟩ => show 0 + 1 * j.val = j.val; omega
  | ⟨2, _⟩ => show 0 + 1 * f.val = f.val; omega

/-- A received block of value weights is stored as it came. -/
theorem sent102_apply (X : Vec Ideal S1x64x1024 .bf16) (u : Fin 1) (j : Fin 64) (f : Fin 1024) : k0_pay102 X (ix3 u j f) = X (ix3 0 j f) := by
  obtain rfl : u = 0 := Subsingleton.elim _ _
  pointwise [k0_pay102]

/-- A received block of key weights is stored as it came. -/
theorem sent101_apply (X : Vec Ideal S1x64x1024 .bf16) (u : Fin 1) (j : Fin 64) (f : Fin 1024) : k0_pay101 X (ix3 u j f) = X (ix3 0 j f) := by
  obtain rfl : u = 0 := Subsingleton.elim _ _
  pointwise [k0_pay101]

/-- A device's own value weights are stored as one block of the stack. -/
theorem kept99_apply (X : Vec Ideal S64x1024 .bf16) (u : Fin 1) (j : Fin 64) (f : Fin 1024) : k0_pay99 X (ix3 u j f) = X (ix2 j f) := by
  pointwise [k0_pay99]

/-- A device's own key weights are stored as one block of the stack. -/
theorem kept98_apply (X : Vec Ideal S64x1024 .bf16) (u : Fin 1) (j : Fin 64) (f : Fin 1024) :
    k0_pay98 (F := Ideal) (shapeCast S64x1024 X shapeCasts_S64x1024_S64x1024) (ix3 u j f) = X (ix2 j f) := by
  pointwise [k0_pay98]

/-- Every store into the array of the weights is its part of both devices' weights. -/
theorem weights_part : ∀ p ∈ bodyRun.sl.Hs5_4 m c, ∀ x : p.1.shape.Idx, p.2 x = bothWeights m c (p.1.emb x) := by
  unfold bodyRun.sl.Hs5_4
  simp only [List.forall_mem_cons]
  refine ⟨fun x => ?_, fun x => ?_, fun x => ?_, fun x => ?_, fun _ h => absurd h List.not_mem_nil⟩ <;>
    obtain ⟨u, j, f, rfl⟩ : ∃ (u : Fin 1) (j : Fin 64) (f : Fin 1024), x = ix3 u j f := ⟨x 0, x 1, x 2, eq_ix3 x⟩
  · refine Eq.trans ?_ (mate_weights m c 1 j f _ (Fin.ext (by show 1 + 1 * u.val = 1; omega)) (by show 64 + 1 * j.val = _; omega) (Fin.ext (by show 0 + 1 * f.val = _; omega)))
    exact (sent102_apply _ u j f).trans (sent_load m 1 (mate c) inb_S2x64x1024_S1x64x1024_1_0_0 0 j f)
  · refine Eq.trans ?_ (mate_weights m c 0 j f _ (Fin.ext (by show 0 + 1 * u.val = 0; omega)) (by show 64 + 1 * j.val = _; omega) (Fin.ext (by show 0 + 1 * f.val = _; omega)))
    exact (sent101_apply _ u j f).trans (sent_load m 0 (mate c) inb_S2x64x1024_S1x64x1024_0_0_0 0 j f)
  · refine Eq.trans ?_ (own_weights m c 1 j f _ (Fin.ext (by show 1 + 1 * u.val = 1; omega)) (by show 0 + 1 * j.val = _; omega) (Fin.ext (by show 0 + 1 * f.val = _; omega)))
    exact (kept99_apply _ u j f).trans (congrFun ((load_whole cc0_stg3_0 _ _).trans (uvIn_eq m c)) (ix2 j f))
  · refine Eq.trans ?_ (own_weights m c 0 j f _ (Fin.ext (by show 0 + 1 * u.val = 0; omega)) (by show 0 + 1 * j.val = _; omega) (Fin.ext (by show 0 + 1 * f.val = _; omega)))
    exact (kept98_apply _ u j f).trans (congrFun ((load_whole cc0_stg2_0 _ _).trans (ukIn_eq m c)) (ix2 j f))

/-- The stores fill the array of the weights. -/
theorem weights_cover (y : S2x128x1024.Idx) : ∃ p ∈ bodyRun.sl.Hs5_4 m c, y ∈ p.1.set :=
  View.cover_of_tiled (bodyRun.sl.Hs5_4 m c) ![1, 64, 1024] (by sl_kernel_rfl) y

/-- The key weights as the kernel loads them. -/
theorem keyWeights_read (u : Fin 1) (j : Fin 128) (f : Fin 1024) : bodyRun.sl.v394 m c (ix3 u j f) = bothWeights m c (ix3 0 j f) := by
  unfold bodyRun.sl.v394
  refine (readCov_pieces _ (bothWeights m c) _ _ (weights_part m c) (weights_cover m c) _).trans (congrArg _ ?_)
  funext a
  apply Fin.ext
  match a with
  | ⟨0, _⟩ => show 0 + 1 * u.val = 0; omega
  | ⟨1, _⟩ => show 0 + 1 * j.val = j.val; omega
  | ⟨2, _⟩ => show 0 + 1 * f.val = f.val; omega

/-- The value weights as the kernel loads them. -/
theorem valueWeights_read (u : Fin 1) (j : Fin 128) (f : Fin 1024) : bodyRun.sl.v398 m c (ix3 u j f) = bothWeights m c (ix3 1 j f) := by
  unfold bodyRun.sl.v398
  refine (readCov_pieces _ (bothWeights m c) _ _ (weights_part m c) (weights_cover m c) _).trans (congrArg _ ?_)
  funext a
  apply Fin.ext
  match a with
  | ⟨0, _⟩ => show 1 + 1 * u.val = 1; omega
  | ⟨1, _⟩ => show 0 + 1 * j.val = j.val; omega
  | ⟨2, _⟩ => show 0 + 1 * f.val = f.val; omega

/-- Keys (`s = 0`) or values (`s = 1`), summed over both halves of the latent rows. -/
def keyAt (s : Fin 2) (r : Fin 512) (f : Fin 1024) : EReal :=
  (∑ j : Fin 64, latAt m c r j * weightAt m c s j f) + ∑ j : Fin 64, latAt m (mate c) r j * weightAt m (mate c) s j f

/-- A product over both halves of the latent width is the sum of the two halves. -/
theorem both_sum (s : Fin 2) (r : Fin 512) (f : Fin 1024) :
    (∑ j : Fin 128, bothLat m c (ix2 r j) * bothWeights m c (ix3 s j f)) = keyAt m c s r f := by
  rw [Fin.sum_univ_two_halves 64 64 rfl]
  unfold keyAt
  refine congrArg₂ (· + ·) ?_ ?_
  · refine Finset.sum_congr rfl fun j _ => ?_
    congr 1
    · unfold bothLat; exact dif_pos j.isLt
    · unfold bothWeights; exact dif_pos j.isLt
  · refine Finset.sum_congr rfl fun j _ => ?_
    congr 1
    · unfold bothLat; rw [dif_neg (by simp)]; congr 1; apply Fin.ext; simp
    · unfold bothWeights; rw [dif_neg (by simp)]; congr 1; apply Fin.ext; simp

/-- The keys the kernel works with. -/
theorem keys_apply (r : Fin 512) (f : Fin 1024) : bodyRun.sl.r_3 m c (ix2 r f) = keyAt m c 0 r f := by
  rw [← both_sum]
  simp only [← keyWeights_read m c 0, ← latents_read]
  unfold bodyRun.sl.r_3
  generalize bodyRun.sl.v393 m c = X
  generalize bodyRun.sl.v394 m c = D
  pointwise [k0_pay103]

/-- The values the kernel works with. -/
theorem values_apply (r : Fin 512) (f : Fin 1024) : bodyRun.sl.r_4 m c (ix2 r f) = keyAt m c 1 r f := by
  rw [← both_sum]
  simp only [← valueWeights_read m c 0, ← latents_read]
  unfold bodyRun.sl.r_4
  generalize bodyRun.sl.v393 m c = X
  generalize bodyRun.sl.v398 m c = D
  pointwise [k0_pay104]

end Cert.Latent
-- ==== Proof.KernelValue.lean ====
/-
# What a device's kernel computes

Every intermediate array has been read; here the result is put together as one formula over the inputs of the device and
of its mate.
-/
module

public import proofs.«01_k».proof.Proof.Gathered
public import proofs.«01_k».proof.Proof.Run

@[expose] public section

set_option maxRecDepth 16384

noncomputable section

namespace Cert.Latent

open Cert.KernelIdeal Cert.KernelIdeal.Gen
open Idealize.ShloMosaic
open Idealize.ShloMosaic.TcCoe

variable (m : (ℓ : Loc nD τ sig) → Buf (Elt Ideal) ℓ) (c : Dev nD)

/-- The scale of the scores. -/
def scale : EReal := Ideal.ofBits .f32 0x3DD105EC#32

/-- A row of queries. -/
def qAt (r : Fin 512) (f : Fin 1024) : EReal := ∑ k : Fin 1024, xArr m c (ix3 (batchOf r) (placeOf r) k) * qArr m c (ix2 k f)
/-- A row of rotary queries. -/
def qrAt (r : Fin 512) (f : Fin 512) : EReal := ∑ k : Fin 1024, xArr m c (ix3 (batchOf r) (placeOf r) k) * qrArr m c (ix2 k f)
/-- A row of rotary keys. -/
def krAt (r : Fin 512) (f : Fin 32) : EReal := ∑ k : Fin 1024, xArr m c (ix3 (batchOf r) (placeOf r) k) * krArr m c (ix2 k f)

/-- The queries the kernel works with are scaled. -/
theorem queries_apply (r : Fin 512) (f : Fin 1024) : bodyRun.sl.r m c (ix2 r f) = qAt m c r f * scale := by
  unfold bodyRun.sl.r qAt scale
  generalize hX : View.readAt (Elt Ideal) (Memref.whole cc0_stg0_0).view _ (xIn m c) = X
  obtain rfl : X = xArr m c := hX.symm.trans ((load_whole cc0_stg0_0 _ _).trans (xIn_eq m c))
  generalize hD : View.readAt (Elt Ideal) (Memref.whole cc0_stg4_0).view _ (qIn m c) = D
  obtain rfl : D = qArr m c := hD.symm.trans ((load_whole cc0_stg4_0 _ _).trans (qIn_eq m c))
  simp only [← rows_apply]
  generalize k0_pay3 (xArr m c) = X
  generalize qArr m c = D
  pointwise [k0_pay11, k0_pay10]

/-- So are the rotary queries. -/
theorem rotQueries_apply (r : Fin 512) (f : Fin 512) : bodyRun.sl.r_1 m c (ix2 r f) = qrAt m c r f * scale := by
  unfold bodyRun.sl.r_1 qrAt scale
  generalize hX : View.readAt (Elt Ideal) (Memref.whole cc0_stg0_0).view _ (xIn m c) = X
  obtain rfl : X = xArr m c := hX.symm.trans ((load_whole cc0_stg0_0 _ _).trans (xIn_eq m c))
  generalize hD : View.readAt (Elt Ideal) (Memref.whole cc0_stg5_0).view _ (qrIn m c) = D
  obtain rfl : D = qrArr m c := hD.symm.trans ((load_whole cc0_stg5_0 _ _).trans (qrIn_eq m c))
  simp only [← rows_apply]
  generalize k0_pay3 (xArr m c) = X
  generalize qrArr m c = D
  pointwise [k0_pay12]

/-- The rotary keys, read at an index. -/
theorem rotKeys_apply (r : Fin 512) (f : Fin 32) : rotKeys m c (ix2 r f) = krAt m c r f := by
  unfold rotKeys krAt
  generalize hX : View.readAt (Elt Ideal) (Memref.whole cc0_stg0_0).view _ (xIn m c) = X
  obtain rfl : X = xArr m c := hX.symm.trans ((load_whole cc0_stg0_0 _ _).trans (xIn_eq m c))
  generalize hD : View.readAt (Elt Ideal) (Memref.whole cc0_stg6_0).view _ (krIn m c) = D
  obtain rfl : D = krArr m c := hD.symm.trans ((load_whole cc0_stg6_0 _ _).trans (krIn_eq m c))
  simp only [← rows_apply]
  generalize k0_pay3 (xArr m c) = X
  generalize krArr m c = D
  pointwise [k0_pay9]

/-- The fill of the last lanes is zero. -/
theorem zeros_apply (r : Fin 512) (h : Fin 16) (j : ℕ) : feat0 k0_pay13 r h j = 0 := by
  unfold feat0
  split
  · pointwise [k0_pay13]
  · rfl

/-- A product over a head's 128 lanes, by its three parts. -/
theorem lanes_sum (A B C A' B' C' : Fin 512 → Fin 16 → ℕ → EReal) (h : Fin 16) (r r' : Fin 512) :
    (∑ j : Fin 128, lanesAt A B C (ix2 r (laneOf h j)) * lanesAt A' B' C' (ix2 r' (laneOf h j)))
      = (∑ j : Fin 64, A r h j.val * A' r' h j.val)
        + ((∑ j : Fin 32, B r h j.val * B' r' h j.val) + ∑ j : Fin 32, C r h j.val * C' r' h j.val) := by
  have key (A B C : Fin 512 → Fin 16 → ℕ → EReal) (r : Fin 512) (j : Fin 128) : lanesAt A B C (ix2 r (laneOf h j))
      = if j.val < 64 then A r h j.val else if j.val < 96 then B r h (j.val - 64) else C r h (j.val - 96) := by
    unfold lanesAt laneOf
    have e : (h.val * 128 + j.val) % 128 = j.val := by omega
    have e' : (⟨(h.val * 128 + j.val) / 128, by omega⟩ : Fin 16) = h := Fin.ext (by show (h.val * 128 + j.val) / 128 = h.val; omega)
    show (let h' : Fin 16 := ⟨(h.val * 128 + j.val) / 128, _⟩; let j' := (h.val * 128 + j.val) % 128
      if j' < 64 then A r h' j' else if j' < 96 then B r h' (j' - 64) else C r h' (j' - 96)) = _
    dsimp only
    rw [e, e']
  simp only [key]
  rw [Fin.sum_univ_two_halves 64 64 rfl]
  refine congrArg₂ (· + ·) ?_ ?_
  · refine Finset.sum_congr rfl fun j _ => ?_
    have hj := j.isLt
    simp [hj]
  · rw [Fin.sum_univ_two_halves 32 32 rfl]
    refine congrArg₂ (· + ·) ?_ ?_
    · refine Finset.sum_congr rfl fun j _ => ?_
      have hj := j.isLt
      simp [show 64 + j.val < 96 by omega]
    · refine Finset.sum_congr rfl fun j _ => ?_
      have hj := j.isLt
      simp [show ¬ 64 + (32 + j.val) < 96 by omega]
      rw [show 64 + (32 + j.val) - 96 = j.val by omega]

/-- A score: query row `s` against key row `t`, as the kernel forms it. -/
def scoreAt (h : Fin 16) (b : Fin 2) (s t : Fin 256) : EReal :=
  (∑ j : Fin 64, (qAt m c (rowOf b s) (featOf h j) * scale) * keyAt m c 0 (rowOf b t) (featOf h j))
    + ∑ j : Fin 32, (qrAt m c (rowOf b s) ⟨h.val * 32 + j.val, by omega⟩ * scale) * krAt m c (rowOf b t) j

/-- The exponential a head works with is that of its score. -/
theorem exp_apply (h : Fin 16) (b : Fin 2) (s t : Fin 256) :
    expAt (bodyRun.sl.v466 m c) (bodyRun.sl.v468 m c) h b s t = Ideal.exp (scoreAt m c h b s t) := by
  unfold expAt scoreAt
  rw [queries_read, keys_read, lanes_sum]
  congr 1
  refine congrArg₂ (· + ·) ?_ ?_
  · refine Finset.sum_congr rfl fun j _ => ?_
    unfold feat64
    rw [dif_pos j.isLt, dif_pos j.isLt, queries_apply, keys_apply]
    rfl
  · simp only [zeros_apply, zero_mul, Finset.sum_const_zero, add_zero]
    refine Finset.sum_congr rfl fun j _ => ?_
    unfold feat32 feat0
    rw [dif_pos j.isLt, dif_pos j.isLt, rotQueries_apply, rotKeys_apply]

/-- One element of the attention before the output projection. -/
def mixedAt (b : Fin 2) (s : Fin 256) (i : Fin 1024) : EReal :=
  Ideal.div (∑ t : Fin 256, keyAt m c 1 (rowOf b t) i * Ideal.exp (scoreAt m c ⟨i.val / 64, by omega⟩ b s t))
    (∑ t : Fin 256, Ideal.exp (scoreAt m c ⟨i.val / 64, by omega⟩ b s t))

/-- The array of all heads, read at an index. -/
theorem heads_apply (b : Fin 2) (s : Fin 256) (i : Fin 1024) : bodyRun.sl.v823 m c (ix2 i (rowOf b s)) = mixedAt m c b s i := by
  rw [heads_read]
  unfold attnT headAt mixedAt
  have eb : (⟨(rowOf b s).val / 256, by have := (rowOf b s).isLt; omega⟩ : Fin 2) = b := Fin.ext (by show (b.val * 256 + s.val) / 256 = _; omega)
  have es : (⟨(rowOf b s).val % 256, by omega⟩ : Fin 256) = s := Fin.ext (by show (b.val * 256 + s.val) % 256 = _; omega)
  have ei : featOf ⟨i.val / 64, by omega⟩ ⟨i.val % 64, by omega⟩ = i := Fin.ext (by show i.val / 64 * 64 + i.val % 64 = _; omega)
  simp only [exp_apply, values_apply]
  show Ideal.div (∑ t : Fin 256, keyAt m c 1 (rowOf ⟨(rowOf b s).val / 256, _⟩ t) (featOf ⟨i.val / 64, _⟩ ⟨i.val % 64, _⟩)
      * Ideal.exp (scoreAt m c ⟨i.val / 64, _⟩ ⟨(rowOf b s).val / 256, _⟩ ⟨(rowOf b s).val % 256, _⟩ t))
    (∑ t : Fin 256, Ideal.exp (scoreAt m c ⟨i.val / 64, _⟩ ⟨(rowOf b s).val / 256, _⟩ ⟨(rowOf b s).val % 256, _⟩ t)) = _
  rw [eb, es, ei]

/-- The one store into the output buffer. -/
theorem out_pieces : bodyRun.sl.Hg8_1 m c = [⟨Rect.unit (s := S2x256x1024) ![0, 0, 0] ![2, 256, 1024] (by decide),
    k0_pay2 (bodyRun.sl.v823 m c) (View.readAt (Elt Ideal) (Memref.whole cc0_stg7_0).view (Rect.unit (s := S1024x1024) ![0, 0] ![1024, 1024] (by decide)).toLoadRect (oIn m c))⟩] := by
  sl_kernel_rfl

/-- One whole store into a buffer leaves its payload. -/
theorem store_whole (b : Ref sig .tc) (f : b.ty.Contents (Elt Ideal)) {off : Fin b.ty.shape.rank → ℕ} (inb : ∀ a, off a + b.ty.shape.size a ≤ b.ty.shape.size a)
    (P : (Rect.unit off b.ty.shape.size inb).shape.Idx → Elt Ideal b.ty.elt) :
    (Memref.whole b).view.writes (Elt Ideal) f [⟨Rect.unit off b.ty.shape.size inb, P⟩] = P :=
  View.read_writes_full (Memref.whole b).view f inb P []

/-- What the body leaves in the output buffer, as the last product. -/
theorem out_eq : outAt m c = k0_pay2 (bodyRun.sl.v823 m c) (oArr m c) :=
  ((outAt_writes m c).trans (congrArg _ (out_pieces m c))).trans
    ((store_whole cc0_stg8_0 _ _ _).trans (congrArg (k0_pay2 (bodyRun.sl.v823 m c)) ((load_whole cc0_stg7_0 _ _).trans (oIn_eq m c))))

/-- What the body leaves in the output buffer: every row of the mixed features times the output weights. -/
theorem out_apply (b : Fin 2) (s : Fin 256) (f : Fin 1024) :
    outAt m c (ix3 b s f) = ∑ i : Fin 1024, mixedAt m c b s i * oArr m c (ix2 i f) := by
  rw [out_eq]
  generalize hV : bodyRun.sl.v823 m c = V
  generalize oArr m c = W
  have key : ∀ i, V (ix2 i (rowOf b s)) = mixedAt m c b s i := by intro i; rw [← hV, heads_apply]
  simp only [← key]
  pointwise [k0_pay2]
  rfl

end Cert.Latent
-- ==== Proof.Softmax.lean ====
/-
# The two forms of the softmax

The kernel takes exponentials of the scores as they are, sums the values weighted by them, and divides once. The reference
takes the largest score away first and divides every weight. For finite scores the two are the same, whatever the values.
-/
module

public import Idealize.ShloMosaic.PureOps.Ideal
public import Idealize.ShloMosaic.Lib.IdealHost
public import Idealize.ShloMosaic.Lib.Pointwise

@[expose] public section

noncomputable section

namespace Cert.Latent

open Idealize.ShloMosaic

/-- An extended real that is a real number. -/
def IsReal (x : EReal) : Prop := ∃ r : ℝ, x = (r : EReal)

/-- Products of real numbers are real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Sums of two real numbers are real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of real numbers, as a real number. -/
theorem coe_sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Finite sums of real numbers are real. -/
theorem IsReal.sum {ι : Type} [Fintype ι] {f : ι → EReal} (h : ∀ i, IsReal (f i)) : IsReal (∑ i, f i) := by
  choose g hg using h
  exact ⟨∑ i, g i, by simp only [hg]; exact coe_sum_real _ g⟩

/-- A number whose absolute value is below infinity is real. -/
theorem IsReal.of_abs_lt {x : EReal} (h : max x (-x) < ⊤) : IsReal x := by
  induction x with
  | bot => simp at h
  | top => simp at h
  | coe r => exact ⟨r, rfl⟩

/-- A nonnegative real factor goes into a finite sum. -/
theorem sum_mul_real {ι : Type} (s : Finset ι) (f : ι → EReal) (a : ℝ) (ha : 0 ≤ a) : (∑ i ∈ s, f i) * (a : EReal) = ∑ i ∈ s, f i * (a : EReal) := by
  classical
  induction s using Finset.induction_on with
  | empty => simp
  | insert b s hb ih =>
    rw [Finset.sum_insert hb, Finset.sum_insert hb, ← ih]
    exact EReal.right_distrib_of_nonneg_of_ne_top (by exact_mod_cast ha) (EReal.coe_ne_top a) _ _

/-- The largest of finitely many real scores, from minus infinity, is real. -/
theorem fold_max_real {n : ℕ} (s : Fin (n + 1) → ℝ) : IsReal (Finset.univ.fold max (⊥ : EReal) fun t => (s t : EReal)) := by
  classical
  have h : ∀ S : Finset (Fin (n + 1)), (S.fold max (⊥ : EReal) fun t => (s t : EReal)) = ⊥ ∧ S = ∅ ∨ IsReal (S.fold max (⊥ : EReal) fun t => (s t : EReal)) := by
    intro S
    induction S using Finset.induction_on with
    | empty => left; simp
    | insert a S ha ih =>
      right
      rw [Finset.fold_insert ha]
      rcases ih with ⟨h, -⟩ | ⟨r, h⟩
      · rw [h]; exact ⟨s a, by simp⟩
      · rw [h]; exact ⟨max (s a) r, (EReal.coe_strictMono.monotone.map_max).symm⟩
  rcases h Finset.univ with ⟨-, h⟩ | h
  · exact absurd h Finset.univ_nonempty.ne_empty
  · exact h

/-- Dividing the weighted sum of the values once by the sum of the exponentials is weighting the values by the softmax of the scores. -/
theorem softmax_eq {n : ℕ} (S : Fin (n + 1) → EReal) (hS : ∀ t, IsReal (S t)) (V : Fin (n + 1) → EReal) :
    Ideal.div (∑ t, V t * Ideal.exp (S t)) (∑ t, Ideal.exp (S t))
      = ∑ t, V t * Ideal.div (Ideal.exp (S t - Finset.univ.fold max ⊥ S)) (∑ u, Ideal.exp (S u - Finset.univ.fold max ⊥ S)) := by
  choose s hs using hS
  obtain rfl : S = fun t => (s t : EReal) := funext hs
  obtain ⟨μ, hμ⟩ := fold_max_real s
  rw [hμ]
  have hsub : ∀ t, ((s t : ℝ) : EReal) - (μ : EReal) = ((s t - μ : ℝ) : EReal) := fun t => (EReal.coe_sub _ _).symm
  simp only [hsub, Ideal.exp_coe, coe_sum_real]
  have pos : 0 < ∑ t, Real.exp (s t) := Finset.sum_pos (fun t _ => Real.exp_pos _) Finset.univ_nonempty
  have pos' : 0 < ∑ t, Real.exp (s t - μ) := Finset.sum_pos (fun t _ => Real.exp_pos _) Finset.univ_nonempty
  simp only [Ideal.div_coe pos.ne', Ideal.div_coe pos'.ne']
  rw [sum_mul_real _ _ _ (by positivity)]
  refine Finset.sum_congr rfl fun t _ => ?_
  rw [mul_assoc, ← EReal.coe_mul, ← EReal.coe_mul]
  congr 2
  have h : ∑ t, Real.exp (s t - μ) = (∑ t, Real.exp (s t)) * Real.exp (-μ) := by
    rw [Finset.sum_mul]
    exact Finset.sum_congr rfl fun t _ => by rw [← Real.exp_add, sub_eq_add_neg]
  rw [h, sub_eq_add_neg, Real.exp_add]
  have e := Real.exp_pos (-μ)
  field_simp

/-- The pattern the scores are scaled by is a real number that is not negative. -/
theorem scale_real : ∃ a : ℝ, 0 ≤ a ∧ Ideal.ofBits .f32 0x3DD105EC#32 = (a : EReal) := by
  refine ⟨13698540 / 2 ^ 27, by positivity, ?_⟩
  simp [Ideal.ofBits, Ideal.ieee, -EReal.coe_mul]
  norm_num

/-- The pattern of minus infinity. -/
theorem minus_infinity : Ideal.ofBits .f32 0xFF800000#32 = (⊥ : EReal) := by
  simp [Ideal.ofBits, Ideal.ieee]

/-- The pattern of infinity. -/
theorem plus_infinity : Ideal.ofBits .f32 0x7F800000#32 = (⊤ : EReal) := by
  simp [Ideal.ofBits, Ideal.ieee]

end Cert.Latent
-- ==== Proof.RefValue.lean ====
/-
# What the reference computes

The composed term of the reference's result, read at an index as sums over the whole arrays.
-/
module

public import proofs.«01_k».proof.Proof.Gen.ReferenceIdeal
public import proofs.«01_k».proof.Proof.Gen.ReferenceIdeal.Run
public import proofs.«01_k».proof.Proof.Softmax
public import Idealize.ShloMosaic.Lib.Pointwise
public import Idealize.ShloMosaic.Lib.Tactic.CleanTypes

@[expose] public section

set_option maxRecDepth 16384

noncomputable section

namespace Cert.Latent

open Idealize.ShloMosaic

/-- The whole arrays the computation starts from. -/
structure Whole where
  x : (⟨3, ![2, 256, 1024]⟩ : Shape).Idx → EReal
  down : (⟨2, ![1024, 128]⟩ : Shape).Idx → EReal
  upK : (⟨2, ![128, 1024]⟩ : Shape).Idx → EReal
  upV : (⟨2, ![128, 1024]⟩ : Shape).Idx → EReal
  q : (⟨2, ![1024, 1024]⟩ : Shape).Idx → EReal
  qr : (⟨2, ![1024, 512]⟩ : Shape).Idx → EReal
  kr : (⟨2, ![1024, 32]⟩ : Shape).Idx → EReal
  o : (⟨2, ![1024, 1024]⟩ : Shape).Idx → EReal

namespace Whole

variable (A : Whole)

/-- The latent row of a place. -/
def latent (b : Fin 2) (t : Fin 256) (j : Fin 128) : EReal := ∑ k : Fin 1024, A.x (ix3 b t k) * A.down (ix2 k j)
/-- The key features of a place. -/
def key (b : Fin 2) (t : Fin 256) (f : Fin 1024) : EReal := ∑ j : Fin 128, A.latent b t j * A.upK (ix2 j f)
/-- The value features of a place. -/
def value (b : Fin 2) (t : Fin 256) (f : Fin 1024) : EReal := ∑ j : Fin 128, A.latent b t j * A.upV (ix2 j f)
/-- The query features of a place. -/
def query (b : Fin 2) (s : Fin 256) (f : Fin 1024) : EReal := ∑ k : Fin 1024, A.x (ix3 b s k) * A.q (ix2 k f)
/-- The rotary query features of a place. -/
def rotQuery (b : Fin 2) (s : Fin 256) (f : Fin 512) : EReal := ∑ k : Fin 1024, A.x (ix3 b s k) * A.qr (ix2 k f)
/-- The rotary key features of a place, one set for all heads. -/
def rotKey (b : Fin 2) (t : Fin 256) (f : Fin 32) : EReal := ∑ k : Fin 1024, A.x (ix3 b t k) * A.kr (ix2 k f)

/-- A score of a head. -/
def score (h : Fin 16) (b : Fin 2) (s t : Fin 256) : EReal :=
  ((∑ j : Fin 64, A.query b s ⟨h.val * 64 + j.val, by omega⟩ * A.key b t ⟨h.val * 64 + j.val, by omega⟩)
    + ∑ j : Fin 32, A.rotQuery b s ⟨h.val * 32 + j.val, by omega⟩ * A.rotKey b t j) * Ideal.ofBits .f32 0x3DD105EC#32

/-- The largest score of a query. -/
def top (h : Fin 16) (b : Fin 2) (s : Fin 256) : EReal :=
  Finset.univ.fold max (Ideal.ofBits .f32 0xFF800000#32) fun t : Fin 256 => A.score h b s t

/-- One feature of the attention's result. -/
def mixed (b : Fin 2) (s : Fin 256) (i : Fin 1024) : EReal :=
  ∑ t : Fin 256, A.value b t i * Ideal.div (Ideal.exp (A.score ⟨i.val / 64, by omega⟩ b s t - A.top ⟨i.val / 64, by omega⟩ b s))
    (∑ u : Fin 256, Ideal.exp (A.score ⟨i.val / 64, by omega⟩ b s u - A.top ⟨i.val / 64, by omega⟩ b s))

/-- The result. -/
def result (b : Fin 2) (s : Fin 256) (f : Fin 1024) : EReal := ∑ i : Fin 1024, A.mixed b s i * A.o (ix2 i f)

end Whole

section
open Cert.ReferenceIdeal Cert.ReferenceIdeal.Gen
open Idealize.ShloMosaic.TcCoe
variable (m : (ℓ : Loc nD τ sig) → Buf (Elt Ideal) ℓ) (c : Dev nD)

/-- The whole arrays of a memory of the reference. -/
def wholeOf : Whole where
  x := m ((c.tc : Thread nD τ).loc main_arg0)
  down := m ((c.tc : Thread nD τ).loc main_arg1)
  upK := m ((c.tc : Thread nD τ).loc main_arg2)
  upV := m ((c.tc : Thread nD τ).loc main_arg3)
  q := m ((c.tc : Thread nD τ).loc main_arg4)
  qr := m ((c.tc : Thread nD τ).loc main_arg5)
  kr := m ((c.tc : Thread nD τ).loc main_arg6)
  o := m ((c.tc : Thread nD τ).loc main_arg7)

set_option maxHeartbeats 4000000 in
/-- The reference's result at an index. -/
theorem reference_apply (b : Fin 2) (s : Fin 256) (f : Fin 1024) :
    Cert.ReferenceIdeal.Value.res_main_v38 m c (ix3 b s f) = (wholeOf m c).result b s f := by
  unfold Cert.ReferenceIdeal.Value.res_main_v38 Whole.result Whole.mixed Whole.top Whole.score Whole.key Whole.value Whole.latent
    Whole.query Whole.rotQuery Whole.rotKey wholeOf
  dsimp only
  generalize (m ((c.tc : Thread nD τ).loc main_arg0)) = X
  generalize (m ((c.tc : Thread nD τ).loc main_arg1)) = D
  generalize (m ((c.tc : Thread nD τ).loc main_arg2)) = U
  generalize (m ((c.tc : Thread nD τ).loc main_arg3)) = V
  generalize (m ((c.tc : Thread nD τ).loc main_arg4)) = Q
  generalize (m ((c.tc : Thread nD τ).loc main_arg5)) = Qr
  generalize (m ((c.tc : Thread nD τ).loc main_arg6)) = Kr
  generalize (m ((c.tc : Thread nD τ).loc main_arg7)) = O
  clean_types
  pointwise []
end

end Cert.Latent
-- ==== Proof.Equation.lean ====
/-
# The kernel computes what the reference computes

A device and its mate hold the two halves of the latent width between them, so their two partial products make the whole
one. With finite scores the two forms of the softmax agree, and so do the results.
-/
module

public import proofs.«01_k».proof.Proof.KernelValue
public import proofs.«01_k».proof.Proof.RefValue

@[expose] public section

set_option maxRecDepth 16384

noncomputable section

namespace Cert.Latent

open Cert.KernelIdeal Cert.KernelIdeal.Gen
open Idealize.ShloMosaic
open Idealize.ShloMosaic.TcCoe

variable (m : (ℓ : Loc nD τ sig) → Buf (Elt Ideal) ℓ)

/-- The place of a device's share on the axis the latent width is cut along: the last axis of the mesh. -/
def sideOf (c : Dev nD) : Fin 2 := ⟨c.val % 2, by omega⟩

/-- A device's share of the latent width. -/
def shareOf (c : Dev nD) (j : Fin 64) : Fin 128 := ⟨(sideOf c).val * 64 + j.val, by have := (sideOf c).isLt; omega⟩

/-- The mate has the other side. -/
theorem side_mate (c : Dev nD) : (sideOf (mate c)).val = 1 - (sideOf c).val := by revert c; decide

/-- Every device holds its part of the whole arrays. -/
structure Parts (A : Whole) : Prop where
  x : ∀ c, xArr m c = A.x
  down : ∀ c k j, dArr m c (ix2 k j) = A.down (ix2 k (shareOf c j))
  upK : ∀ c j f, ukArr m c (ix2 j f) = A.upK (ix2 (shareOf c j) f)
  upV : ∀ c j f, uvArr m c (ix2 j f) = A.upV (ix2 (shareOf c j) f)
  q : ∀ c, qArr m c = A.q
  qr : ∀ c, qrArr m c = A.qr
  kr : ∀ c, krArr m c = A.kr
  o : ∀ c, oArr m c = A.o

/-- The arrays the scores are computed from hold real numbers. -/
structure RealInputs : Prop where
  x : ∀ c i, IsReal (xArr m c i)
  down : ∀ c i, IsReal (dArr m c i)
  upK : ∀ c i, IsReal (ukArr m c i)
  q : ∀ c i, IsReal (qArr m c i)
  qr : ∀ c i, IsReal (qrArr m c i)
  kr : ∀ c i, IsReal (krArr m c i)

variable {m}

/-- The batch of a row built from a batch and a place. -/
theorem batch_row (b : Fin 2) (t : Fin 256) : batchOf (rowOf b t) = b := Fin.ext (by show (b.val * 256 + t.val) / 256 = b.val; omega)
/-- The place of a row built from a batch and a place. -/
theorem place_row (b : Fin 2) (t : Fin 256) : placeOf (rowOf b t) = t := Fin.ext (by show (b.val * 256 + t.val) % 256 = t.val; omega)

/-- The shares of a device and of its mate make up the whole latent width. -/
theorem share_sum (c : Dev nD) (g : Fin 128 → EReal) :
    (∑ j : Fin 64, g (shareOf c j)) + ∑ j : Fin 64, g (shareOf (mate c) j) = ∑ j : Fin 128, g j := by
  rw [Fin.sum_univ_two_halves 64 64 rfl]
  have h := side_mate c
  have lo : ∀ d : Dev nD, (sideOf d).val = 0 → ∀ j : Fin 64, shareOf d j = ⟨j.val, by omega⟩ := fun d hd j => Fin.ext (by show (sideOf d).val * 64 + j.val = j.val; omega)
  have hi : ∀ d : Dev nD, (sideOf d).val = 1 → ∀ j : Fin 64, shareOf d j = ⟨64 + j.val, by omega⟩ := fun d hd j => Fin.ext (by show (sideOf d).val * 64 + j.val = 64 + j.val; omega)
  rcases (by have := (sideOf c).isLt; omega : (sideOf c).val = 0 ∨ (sideOf c).val = 1) with h0 | h1
  · simp only [lo c h0, hi (mate c) (by omega)]
  · simp only [hi c h1, lo (mate c) (by omega)]
    exact add_comm _ _

namespace Parts

variable {A : Whole} (P : Parts m A) (c : Dev nD) (b : Fin 2) (s t : Fin 256)
include P

/-- A device's half of a latent row is its share of the whole row. -/
theorem latAt_eq (j : Fin 64) : latAt m c (rowOf b t) j = A.latent b t (shareOf c j) := by
  unfold latAt Whole.latent
  rw [batch_row, place_row, P.x]
  simp only [P.down]

/-- The keys of a device are the whole keys. -/
theorem key_eq (f : Fin 1024) : keyAt m c 0 (rowOf b t) f = A.key b t f := by
  unfold keyAt Whole.key weightAt
  simp only [if_true, P.latAt_eq, P.upK]
  exact share_sum c fun j => A.latent b t j * A.upK (ix2 j f)

/-- The values of a device are the whole values. -/
theorem value_eq (f : Fin 1024) : keyAt m c 1 (rowOf b t) f = A.value b t f := by
  unfold keyAt Whole.value weightAt
  simp only [if_neg (by decide : ¬ (1 : Fin 2) = 0), P.latAt_eq, P.upV]
  exact share_sum c fun j => A.latent b t j * A.upV (ix2 j f)

/-- The queries. -/
theorem query_eq (f : Fin 1024) : qAt m c (rowOf b s) f = A.query b s f := by
  unfold qAt Whole.query
  rw [batch_row, place_row, P.x, P.q]

/-- The rotary queries. -/
theorem rotQuery_eq (f : Fin 512) : qrAt m c (rowOf b s) f = A.rotQuery b s f := by
  unfold qrAt Whole.rotQuery
  rw [batch_row, place_row, P.x, P.qr]

/-- The rotary keys. -/
theorem rotKey_eq (f : Fin 32) : krAt m c (rowOf b t) f = A.rotKey b t f := by
  unfold krAt Whole.rotKey
  rw [batch_row, place_row, P.x, P.kr]

/-- The scores: scaling the queries is scaling the scores. -/
theorem score_eq (h : Fin 16) : scoreAt m c h b s t = A.score h b s t := by
  unfold scoreAt Whole.score scale
  obtain ⟨a, ha, e⟩ := scale_real
  rw [e, EReal.right_distrib_of_nonneg_of_ne_top (by exact_mod_cast ha) (EReal.coe_ne_top a), sum_mul_real _ _ _ ha, sum_mul_real _ _ _ ha]
  simp only [P.key_eq, P.query_eq, P.rotQuery_eq, P.rotKey_eq]
  refine congrArg₂ (· + ·) ?_ ?_
  · exact Finset.sum_congr rfl fun j _ => mul_right_comm _ _ _
  · exact Finset.sum_congr rfl fun j _ => mul_right_comm _ _ _

/-- The scores are real numbers. -/
theorem score_real (R : RealInputs m) (h : Fin 16) : IsReal (A.score h b s t) := by
  rw [← P.score_eq 0]
  have lat : ∀ c r j, IsReal (latAt m c r j) := fun c r j => IsReal.sum fun k => (R.x _ _).mul (R.down _ _)
  have key : ∀ c r f, IsReal (keyAt m c 0 r f) := fun c r f =>
    (IsReal.sum fun j => (lat _ _ _).mul (R.upK _ _)).add (IsReal.sum fun j => (lat _ _ _).mul (R.upK _ _))
  have sc : IsReal scale := by obtain ⟨a, -, e⟩ := scale_real; exact ⟨a, e⟩
  exact (IsReal.sum fun j => ((IsReal.sum fun k => (R.x _ _).mul (R.q _ _)).mul sc).mul (key _ _ _)).add
    (IsReal.sum fun j => ((IsReal.sum fun k => (R.x _ _).mul (R.qr _ _)).mul sc).mul (IsReal.sum fun k => (R.x _ _).mul (R.kr _ _)))

/-- The attention's result. -/
theorem mixed_eq (R : RealInputs m) (i : Fin 1024) : mixedAt m c b s i = A.mixed b s i := by
  unfold mixedAt Whole.mixed Whole.top
  simp only [P.value_eq, P.score_eq]
  rw [minus_infinity]
  exact softmax_eq (n := 255) (fun t => A.score ⟨i.val / 64, by omega⟩ b s t) (fun t => P.score_real b s t R _) fun t => A.value b t i

/-- What a device's kernel leaves is the reference's result. -/
theorem result_eq (R : RealInputs m) (f : Fin 1024) : outAt m c (ix3 b s f) = A.result b s f := by
  rw [out_apply]
  unfold Whole.result
  simp only [P.mixed_eq c b s R, P.o]

end Parts

end Cert.Latent
-- ==== Proof.Finite.lean ====
/-
# What the precondition says

Its printed predicate is a conjunction of six "all below infinity in absolute value"; read back, each says that an array
holds real numbers.
-/
module

public import proofs.«01_k».proof.Defs
public import proofs.«01_k».proof.Proof.Equation
public import Idealize.ShloMosaic.Lib.ReduceAll

@[expose] public section

set_option maxRecDepth 16384

noncomputable section

namespace Cert.Latent

open Cert.KernelIdeal Cert.KernelIdeal.Gen
open Idealize.ShloMosaic
open Idealize.ShloMosaic.TcCoe

/-- The test of one element: its absolute value is below infinity. -/
theorem real_of_test {x : EReal} (h : Ideal.cmp .olt (max x (-x)) (Ideal.ofBits .f32 0x7F800000#32) = 1#1) : IsReal x := by
  rw [plus_infinity] at h
  refine IsReal.of_abs_lt ?_
  by_contra hc
  simp [Ideal.cmp, hc] at h

/-- One of the predicate's six tests. -/
theorem real_of_all {s : Shape} (axes : List (Fin s.rank)) {t u : Shape} [Subsingleton t.Idx] (x : FVec Ideal s .bf16) (y : FVec Ideal s .f32)
    (hb : FTy.bits .bf16 < FTy.bits .f32) (hy : ∀ i, y i = Ideal.ofBits .f32 0x7F800000#32)
    (init : u.Idx → BitVec 1) (h : s.ReducesTo axes t) (hu : 0 < u.numel) (j : t.Idx)
    (e : Host.reduce IntOp.andi (cmpf .olt (Host.absf (extf .f32 x hb)) y) init h hu j = 1#1) (i : s.Idx) : IsReal (x i) := by
  have q := Host.reduce_andi_all _ init h hu j e i
  refine real_of_test ?_
  rw [← hy i]
  exact q

variable [Cert.Pre_scores_finite_KernelIdeal.Facts] {m : (ℓ : Loc nD τ sig) → Buf (Elt Ideal) ℓ}

/-- The precondition makes the arrays of the scores real. -/
theorem real_of_pre (h : Cert.Pre_KernelIdeal_scores_finite_KernelIdeal m) : RealInputs m := by
  have key : ∀ c, (∀ i, IsReal (xArr m c i)) ∧ (∀ i, IsReal (dArr m c i)) ∧ (∀ i, IsReal (ukArr m c i)) ∧ (∀ i, IsReal (qArr m c i))
      ∧ (∀ i, IsReal (qrArr m c i)) ∧ (∀ i, IsReal (krArr m c i)) := by
    intro c
    have e := congrFun (h c) (fun a => a.elim0)
    dsimp only [Cert.Pre_scores_finite_KernelIdeal.fn, Cert.Pre_scores_finite_KernelIdeal.fn_part1, Cert.Pre_scores_finite_KernelIdeal.fn_part2] at e
    have sub : Subsingleton Cert.Pre_scores_finite_KernelIdeal.S_.Idx := ⟨fun a b => funext fun k => k.elim0⟩
    obtain ⟨e, e6⟩ := IntOp.andi_eq_one.1 e
    obtain ⟨e, e5⟩ := IntOp.andi_eq_one.1 e
    obtain ⟨e, e4⟩ := IntOp.andi_eq_one.1 e
    obtain ⟨e, e3⟩ := IntOp.andi_eq_one.1 e
    obtain ⟨e, e2⟩ := IntOp.andi_eq_one.1 e
    obtain ⟨-, e1⟩ := IntOp.andi_eq_one.1 e
    refine ⟨real_of_all _ _ _ _ ?_ _ _ _ _ e1, real_of_all _ _ _ _ ?_ _ _ _ _ e2, real_of_all _ _ _ _ ?_ _ _ _ _ e3,
      real_of_all _ _ _ _ ?_ _ _ _ _ e4, real_of_all _ _ _ _ ?_ _ _ _ _ e5, real_of_all _ _ _ _ ?_ _ _ _ _ e6⟩
    all_goals exact fun _ => rfl
  exact ⟨fun c => (key c).1, fun c => (key c).2.1, fun c => (key c).2.2.1, fun c => (key c).2.2.2.1, fun c => (key c).2.2.2.2.1, fun c => (key c).2.2.2.2.2⟩

end Cert.Latent
-- ==== Proof.Algebraic.lean ====
/-
# The value claim

Both programs run; every device's result is the reference's.
-/
module

public import proofs.«01_k».proof.Defs
public import proofs.«01_k».proof.Proof.Frames
public import proofs.«01_k».proof.Proof.Finite
public import Idealize.ShloMosaic.Lib.Pipeline.ValueKit.Geometry
public import Idealize.ShloMosaic.Lib.LayoutAt

@[expose] public section

set_option maxRecDepth 16384

noncomputable section

namespace Cert.Latent

open Idealize.ShloMosaic Idealize.SL.Sem
open Idealize.ShloMosaic.TcCoe
open Cert.KernelIdeal Cert.KernelIdeal.Gen

/-- The result array ends as the body left its one block. -/
theorem final_out {F : FTy → Type} [FloatOps F] (m : (ℓ : Loc nD τ sig) → Buf (Elt F) ℓ) (ρ : Dev nD → PrngReg) (c : Dev nD) :
    finalA m ρ c (8 : Fin 9) = outAt m c :=
  (dats m ρ 0 c).arrAt_eq_of_after_last (8 : Fin 9) t0_0 (by decide +kernel) (outAt m c) fun _ => rfl

/-- A column share of the latent width. -/
theorem columns_apply (c : Dev nD) (v : (⟨2, ![1024, 128]⟩ : Shape).Idx → EReal) (k : Fin 1024) (j : Fin 64) :
    (Layout.blockN ⟨2, ![1024, 64]⟩ ⟨2, ![1024, 128]⟩ (Layout.meshBlock [2, 2, 2] ![[], [2]] c) v) (ix2 k j) = v (ix2 k (shareOf c j)) := by
  revert c
  unfold shareOf sideOf
  show ∀ c : Fin 8, _
  intro c
  fin_cases c <;> shard_ext

/-- A row share of the latent width. -/
theorem rows_share_apply (c : Dev nD) (v : (⟨2, ![128, 1024]⟩ : Shape).Idx → EReal) (j : Fin 64) (f : Fin 1024) :
    (Layout.blockN ⟨2, ![64, 1024]⟩ ⟨2, ![128, 1024]⟩ (Layout.meshBlock [2, 2, 2] ![[2], []] c) v) (ix2 j f) = v (ix2 (shareOf c j) f) := by
  revert c
  unfold shareOf sideOf
  show ∀ c : Fin 8, _
  intro c
  fin_cases c <;> shard_ext

/-- The kernel and the reference agree. -/
theorem algebraic [Cert.Pre_scores_finite_KernelIdeal.Facts] : Cert.algebraic_KernelIdeal_ReferenceIdeal_pre_scores_finite_KernelIdeal := by
  intro m g m' g' hpre hm
  have P : Parts m (wholeOf m' (0 : Dev Cert.ReferenceIdeal.nD)) :=
    { x := fun c => (hm c).1
      down := fun c k j => (congrFun (hm c).2.1 (ix2 k j)).trans (columns_apply c _ k j)
      upK := fun c j f => (congrFun (hm c).2.2.1 (ix2 j f)).trans (rows_share_apply c _ j f)
      upV := fun c j f => (congrFun (hm c).2.2.2.1 (ix2 j f)).trans (rows_share_apply c _ j f)
      q := fun c => (hm c).2.2.2.2.1
      qr := fun c => (hm c).2.2.2.2.2.1
      kr := fun c => (hm c).2.2.2.2.2.2.1
      o := fun c => (hm c).2.2.2.2.2.2.2 }
  have R := real_of_pre hpre
  refine ⟨Cert.ReferenceIdeal.Value.res_main_v38 m' (0 : Dev Cert.ReferenceIdeal.nD), ?_, ?_⟩
  · refine (θ_run Cert.KernelIdeal.defs _ _).mono (fun r h c => ⟨?_, ends_args m g r h.1 c⟩) (run_main m g)
    refine ((h.1 c (8 : Fin 9)).trans (final_out m g c)).trans ?_
    funext i
    obtain ⟨b, s, f, rfl⟩ : ∃ (b : Fin 2) (s : Fin 256) (f : Fin 1024), i = ix3 b s f := ⟨i 0, i 1, i 2, eq_ix3 i⟩
    exact (P.result_eq c b s R f).trans (reference_apply m' 0 b s f).symm
  · exact (θ_run Cert.ReferenceIdeal.defs _ _).mono (fun r h => h 0) (Cert.ReferenceIdeal.Value.run (F := Ideal) m' g')

end Cert.Latent
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Frames
public import proofs.«01_k».proof.Proof.Algebraic

@[expose] public section

noncomputable section

namespace Cert.Proof

open Cert.Latent

/-- Everything the certificate claims. -/
theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, fun m ρ _ => frame_ideal m ρ trivial, frame_reference, fun m ρ _ => frame_reference m ρ trivial,
  trivial, letI := Cert.Pre_scores_finite_KernelIdeal.Gen.facts; algebraic⟩

end Cert.Proof

end
